-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 128]⟩ ⟨2, ![2048, 128]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S8x32x128 : Shape := ⟨3, ![8, 32, 128]⟩
abbrev S7 : Shape := ⟨1, ![7]⟩
abbrev S256x1 : Shape := ⟨2, ![256, 1]⟩
abbrev S1x128 : Shape := ⟨2, ![1, 128]⟩
abbrev S_ : Shape := ⟨0, ![]⟩
abbrev S128x2x128 : Shape := ⟨3, ![128, 2, 128]⟩
abbrev S128x1x128 : Shape := ⟨3, ![128, 1, 128]⟩
abbrev S64x4x128 : Shape := ⟨3, ![64, 4, 128]⟩
abbrev S64x2x128 : Shape := ⟨3, ![64, 2, 128]⟩
abbrev S32x8x128 : Shape := ⟨3, ![32, 8, 128]⟩
abbrev S32x4x128 : Shape := ⟨3, ![32, 4, 128]⟩
abbrev S16x16x128 : Shape := ⟨3, ![16, 16, 128]⟩
abbrev S16x8x128 : Shape := ⟨3, ![16, 8, 128]⟩
abbrev S8x16x128 : Shape := ⟨3, ![8, 16, 128]⟩
abbrev S1x32x128 : Shape := ⟨3, ![1, 32, 128]⟩
abbrev S32x128 : Shape := ⟨2, ![32, 128]⟩
abbrev S1 : Shape := ⟨1, ![1]⟩
abbrev S4x64x128 : Shape := ⟨3, ![4, 64, 128]⟩
abbrev S4x32x128 : Shape := ⟨3, ![4, 32, 128]⟩
abbrev S2x128x128 : Shape := ⟨3, ![2, 128, 128]⟩
abbrev S2x64x128 : Shape := ⟨3, ![2, 64, 128]⟩
abbrev S1x256x128 : Shape := ⟨3, ![1, 256, 128]⟩
abbrev S1x128x128 : Shape := ⟨3, ![1, 128, 128]⟩

abbrev nBuf : Space → Nat
  | .hbm => 2
  | .vmem => 6
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S8x32x128, .f32⟩
  | .local _ .vmem, ⟨3, _⟩ => ⟨S8x32x128, .f32⟩
  | .local _ .vmem, ⟨4, _⟩ => ⟨S8x32x128, .f32⟩
  | .local _ .vmem, ⟨5, _⟩ => ⟨S8x32x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v26 : BitVec 32 := Scalar.xori v2 c1_i32_1
  let c1_i32_3 : BitVec 32 := 1#32
  let v27 : BitVec 32 := Scalar.muli v26 c1_i32_3
  let v28 : BitVec 32 := Scalar.addi c0_i32 v27
  v28.toNat
def k0_dev2 (d0 : Dev nD) : Nat :=
  let c0_i32_6 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v29 : BitVec 32 := Scalar.xori v2 c2_i32
  let c1_i32_5 : BitVec 32 := 1#32
  let v30 : BitVec 32 := Scalar.muli v29 c1_i32_5
  let v31 : BitVec 32 := Scalar.addi c0_i32_6 v30
  v31.toNat
def k0_dev3 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v32 : BitVec 32 := Scalar.xori v2 c3_i32
  let c1_i32_8 : BitVec 32 := 1#32
  let v33 : BitVec 32 := Scalar.muli v32 c1_i32_8
  let v34 : BitVec 32 := Scalar.addi c0_i32_9 v33
  v34.toNat
def k0_dev4 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v35 : BitVec 32 := Scalar.xori v2 c4_i32_10
  let c1_i32_12 : BitVec 32 := 1#32
  let v36 : BitVec 32 := Scalar.muli v35 c1_i32_12
  let v37 : BitVec 32 := Scalar.addi c0_i32_13 v36
  v37.toNat
def k0_dev5 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_14 : BitVec 32 := 5#32
  let v38 : BitVec 32 := Scalar.xori v2 c5_i32_14
  let c1_i32_16 : BitVec 32 := 1#32
  let v39 : BitVec 32 := Scalar.muli v38 c1_i32_16
  let v40 : BitVec 32 := Scalar.addi c0_i32_17 v39
  v40.toNat
def k0_dev6 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v41 : BitVec 32 := Scalar.xori v2 c6_i32
  let c1_i32_19 : BitVec 32 := 1#32
  let v42 : BitVec 32 := Scalar.muli v41 c1_i32_19
  let v43 : BitVec 32 := Scalar.addi c0_i32_20 v42
  v43.toNat
def k0_dev7 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v44 : BitVec 32 := Scalar.xori v2 c7_i32_21
  let c1_i32_23 : BitVec 32 := 1#32
  let v45 : BitVec 32 := Scalar.muli v44 c1_i32_23
  let v46 : BitVec 32 := Scalar.addi c0_i32_24 v45
  v46.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v694 : Index := Scalar.indexCast v2
  let c0_151 : Index := 0#32
  let c0_152 : Index := 0#32
  ![v694.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_160 : BitVec 32 := 0#32
  let c0_i32_161 : BitVec 32 := 0#32
  ![v2.toNat, 0, 0]
def k0_off3 (d0 : Dev nD) (c1_i32_155 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v701 : BitVec 32 := Scalar.xori v2 c1_i32_155
  let c0_i32_162 : BitVec 32 := 0#32
  let c0_i32_163 : BitVec 32 := 0#32
  ![v701.toNat, 0, 0]
def k0_dev8 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_155 : BitVec 32 := 1#32
  let v701 : BitVec 32 := Scalar.xori v2 c1_i32_155
  let c1_i32_158 : BitVec 32 := 1#32
  let v702 : BitVec 32 := Scalar.muli v701 c1_i32_158
  let v703 : BitVec 32 := Scalar.addi c0_i32_159 v702
  v703.toNat
def k0_dev9 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_164 : BitVec 32 := 2#32
  let v712 : BitVec 32 := Scalar.xori v2 c2_i32_164
  let c1_i32_167 : BitVec 32 := 1#32
  let v713 : BitVec 32 := Scalar.muli v712 c1_i32_167
  let v714 : BitVec 32 := Scalar.addi c0_i32_168 v713
  v714.toNat
def k0_dev10 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_173 : BitVec 32 := 3#32
  let v723 : BitVec 32 := Scalar.xori v2 c3_i32_173
  let c1_i32_176 : BitVec 32 := 1#32
  let v724 : BitVec 32 := Scalar.muli v723 c1_i32_176
  let v725 : BitVec 32 := Scalar.addi c0_i32_177 v724
  v725.toNat
def k0_dev11 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_182 : BitVec 32 := 4#32
  let v734 : BitVec 32 := Scalar.xori v2 c4_i32_182
  let c1_i32_185 : BitVec 32 := 1#32
  let v735 : BitVec 32 := Scalar.muli v734 c1_i32_185
  let v736 : BitVec 32 := Scalar.addi c0_i32_186 v735
  v736.toNat
def k0_dev12 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_191 : BitVec 32 := 5#32
  let v745 : BitVec 32 := Scalar.xori v2 c5_i32_191
  let c1_i32_194 : BitVec 32 := 1#32
  let v746 : BitVec 32 := Scalar.muli v745 c1_i32_194
  let v747 : BitVec 32 := Scalar.addi c0_i32_195 v746
  v747.toNat
def k0_dev13 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_200 : BitVec 32 := 6#32
  let v756 : BitVec 32 := Scalar.xori v2 c6_i32_200
  let c1_i32_203 : BitVec 32 := 1#32
  let v757 : BitVec 32 := Scalar.muli v756 c1_i32_203
  let v758 : BitVec 32 := Scalar.addi c0_i32_204 v757
  v758.toNat
def k0_dev14 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_209 : BitVec 32 := 7#32
  let v767 : BitVec 32 := Scalar.xori v2 c7_i32_209
  let c1_i32_212 : BitVec 32 := 1#32
  let v768 : BitVec 32 := Scalar.muli v767 c1_i32_212
  let v769 : BitVec 32 := Scalar.addi c0_i32_213 v768
  v769.toNat
def k0_dev15 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_386 : BitVec 32 := 1#32
  let v1351 : BitVec 32 := Scalar.xori v2 c1_i32_386
  let c1_i32_389 : BitVec 32 := 1#32
  let v1352 : BitVec 32 := Scalar.muli v1351 c1_i32_389
  let v1353 : BitVec 32 := Scalar.addi c0_i32_390 v1352
  v1353.toNat
def k0_dev16 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_395 : BitVec 32 := 2#32
  let v1362 : BitVec 32 := Scalar.xori v2 c2_i32_395
  let c1_i32_398 : BitVec 32 := 1#32
  let v1363 : BitVec 32 := Scalar.muli v1362 c1_i32_398
  let v1364 : BitVec 32 := Scalar.addi c0_i32_399 v1363
  v1364.toNat
def k0_dev17 (d0 : Dev nD) : Nat :=
  let c0_i32_408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_404 : BitVec 32 := 3#32
  let v1373 : BitVec 32 := Scalar.xori v2 c3_i32_404
  let c1_i32_407 : BitVec 32 := 1#32
  let v1374 : BitVec 32 := Scalar.muli v1373 c1_i32_407
  let v1375 : BitVec 32 := Scalar.addi c0_i32_408 v1374
  v1375.toNat
def k0_dev18 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_413 : BitVec 32 := 4#32
  let v1384 : BitVec 32 := Scalar.xori v2 c4_i32_413
  let c1_i32_416 : BitVec 32 := 1#32
  let v1385 : BitVec 32 := Scalar.muli v1384 c1_i32_416
  let v1386 : BitVec 32 := Scalar.addi c0_i32_417 v1385
  v1386.toNat
def k0_dev19 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_422 : BitVec 32 := 5#32
  let v1395 : BitVec 32 := Scalar.xori v2 c5_i32_422
  let c1_i32_425 : BitVec 32 := 1#32
  let v1396 : BitVec 32 := Scalar.muli v1395 c1_i32_425
  let v1397 : BitVec 32 := Scalar.addi c0_i32_426 v1396
  v1397.toNat
def k0_dev20 (d0 : Dev nD) : Nat :=
  let c0_i32_435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_431 : BitVec 32 := 6#32
  let v1406 : BitVec 32 := Scalar.xori v2 c6_i32_431
  let c1_i32_434 : BitVec 32 := 1#32
  let v1407 : BitVec 32 := Scalar.muli v1406 c1_i32_434
  let v1408 : BitVec 32 := Scalar.addi c0_i32_435 v1407
  v1408.toNat
def k0_dev21 (d0 : Dev nD) : Nat :=
  let c0_i32_444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_440 : BitVec 32 := 7#32
  let v1417 : BitVec 32 := Scalar.xori v2 c7_i32_440
  let c1_i32_443 : BitVec 32 := 1#32
  let v1418 : BitVec 32 := Scalar.muli v1417 c1_i32_443
  let v1419 : BitVec 32 := Scalar.addi c0_i32_444 v1418
  v1419.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x128 : Shape := ⟨2, ![2048, 128]⟩

abbrev nBuf : Space → Nat
  | .hbm => 2
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Contents.lean ====
/-
# The contents the exchange moves

Device `c` sorts its 256 rows of every column and stores the result as eight slots (`locOut`), one for each device.
After the first exchange it holds, in slot `d`, what device `d` sorted of the columns that are `c`'s; it merges them
(`mrgOut`), again as eight slots. After the second exchange it holds, in slot `d`, its own rows of the columns that
were `d`'s, and rearranges them into its block of the result (`finOut`).

`locOut`, `mrgOut` and `finOut` name the vector the program computes between two memory operations, one binding for each value that
a printed part hands to the next.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit

@[expose] public section

set_option maxRecDepth 16384

noncomputable section

namespace Cert.Exchange

open Cert.KernelIdeal Cert.KernelIdeal.Gen
open Idealize.ShloMosaic
open Idealize.ShloMosaic.TcCoe

variable {F : FTy → Type} [FloatOps F]

/-- What device `c` stores for the first exchange, from its staged block. -/
def locOut (c : Dev nD) (x : Vec F S256x128 .f32) : FVec F S8x32x128 .f32 :=
  let r := k0_pay2 c
  let i0 := iota .tc S256x1 32 [0] iota_S256x1_d0_w32
  let i1 := iota .tc S1x128 32 [1] iota_S1x128_d1_w32
  let y := k0_pay4 x
  let a := k0_pay7 x
  let b0 := k0_pay8 y i0 i1 k0_pay5 k0_pay6 a
  let b3 := k0_pay11 y i0 i1 k0_pay5 k0_pay6 a
  let c0 := k0_pay18 r b0 (k0_pay9 i0) (k0_pay10 i0 i1) b3
  let c1 := k0_pay19 r b0 (k0_pay9 i0) (k0_pay10 i0 i1) b3
  let d := k0_pay21 r c0 c1
  let e := k0_pay22 r (k0_pay20 r) d
  let f1 := k0_pay24 r e
  let f2 := k0_pay25 r e
  let g := k0_pay26 r (k0_pay23 r) f1 f2
  let h0 := k0_pay34 r g (k0_pay27 r)
  let h1 := k0_pay35 r g (k0_pay27 r)
  let j := k0_pay36 r h0 h1
  let k1 := k0_pay43 r j (k0_pay37 r) k0_pay38
  let k2 := k0_pay44 r j (k0_pay37 r) k0_pay38
  let l0 := k0_pay45 r (k0_pay39 r) k1 k2
  let l3 := k0_pay48 r (k0_pay39 r) k1 k2
  let n0 := k0_pay49 r l0 (k0_pay46 r) k0_pay47 l3
  let n1 := k0_pay51 r l0 (k0_pay46 r) k0_pay47 l3
  let o := k0_pay53 r n0 n1 (k0_pay52 r) (constantI S256x128 1 1#1)
  k0_pay56 r o (k0_pay54 r) k0_pay55

/-- What a device stores for the second exchange, from the eight slots it received in the first. -/
def mrgOut (g : Vec F S8x32x128 .f32) : FVec F S8x32x128 .f32 :=
  let r := k0_pay3
  let a0 := k0_pay58 r g
  let a1 := k0_pay60 r g
  let b1 := k0_pay66 r a0 a1 (k0_pay61 r)
  let b2 := k0_pay67 r a0 a1 (k0_pay61 r)
  let c1 := k0_pay69 r (k0_pay65 r) b1 b2
  let c2 := k0_pay70 r (k0_pay65 r) b1 b2
  let d := k0_pay71 r (k0_pay68 r) c1 c2
  let e := k0_pay72 r d
  let f := k0_pay74 r e (k0_pay73 r) 0#32
  let h1 := k0_pay80 r f k0_pay75
  let h2 := k0_pay81 r f k0_pay75
  let j0 := k0_pay82 r (k0_pay76 r) h1 h2
  let j3 := k0_pay85 r (k0_pay76 r) h1 h2
  let k0 := k0_pay86 r j0 (k0_pay83 r) k0_pay84 j3
  let k1 := k0_pay88 r j0 (k0_pay83 r) k0_pay84 j3
  let l := k0_pay90 r k0 k1 (k0_pay89 r) (constantI S256x128 1 1#1)
  k0_pay93 r l (k0_pay91 r) k0_pay92

/-- What a device stores as its block of the result, from the eight slots it received in the second exchange. -/
def finOut (g : Vec F S8x32x128 .f32) : FVec F S256x128 .f32 :=
  k0_pay98 (iota .tc S256x1 32 [0] iota_S256x1_d0_w32) (iota .tc S1x128 32 [1] iota_S1x128_d1_w32) (k0_pay95 g) k0_pay96 k0_pay97

/-- The slot an index of an eight-slot buffer lies in, as a device. -/
def slotOf (i : S8x32x128.Idx) : Dev nD := i 0
/-- The same place in slot `d`. -/
def inSlot (d : Dev nD) (i : S8x32x128.Idx) : S8x32x128.Idx := Function.update i 0 d

theorem slotOf_inSlot (d : Dev nD) (i : S8x32x128.Idx) : slotOf (inSlot d i) = d := by
  unfold slotOf inSlot; exact Function.update_self (β := fun a => Fin (S8x32x128.size a)) 0 d i
theorem inSlot_inSlot (d e : Dev nD) (i : S8x32x128.Idx) : inSlot d (inSlot e i) = inSlot d i := Function.update_idem ..
theorem inSlot_slotOf (i : S8x32x128.Idx) : inSlot (slotOf i) i = i := Function.update_eq_self ..

/-- The eight slots device `c` holds once every device `d` has sent it slot `c` of `z d`. -/
def exch (z : Dev nD → Vec F S8x32x128 .f32) (c : Dev nD) : Vec F S8x32x128 .f32 := fun i => z (slotOf i) (inSlot c i)

end Cert.Exchange

end
-- ==== Proof.Protocol.lean ====
/-
# The exchange's protocol

Eight devices; device `c` talks to `pe o c`, the device whose number is `c`'s with the bits of `o + 1` flipped, for `o = 0, …, 6`. Flipping twice
is the identity, so `pe o` pairs the devices.

1. Device `c` adds one to the barrier semaphore of each `pe o c`, and waits for seven on its own. What it hands to `pe o c` with its signal are the
   slots numbered `pe o c` of its own two landing buffers: nobody writes a landing slot before its owner has signalled.
2. It stores its sorted block in a stage buffer, copies its own slot to its landing buffer, and sends slot `pe o c` of the stage to slot `c` of
   `pe o c`'s landing buffer. Each of the seven transfers has its own send and receive semaphore.
3. It waits on its seven receive semaphores; the wait on the `o`-th hands it the landing slot `pe o c` at the contents that `pe o c` sent.
4. It merges, and does 2 and 3 again with the second pair of buffers.
5. It stores its result and waits on the fourteen send semaphores, which hands back the stage slots.

Every cell is used for one round. A barrier cell has seven duties, duty `o` paid by `pe o c`; a send or receive cell has one duty, paid by the transfer.
At launch a device owes the seven barrier units and the credits of the fourteen landings; levels: barrier 1, first landings 2, second landings 3.
-/
module

public import proofs.«01_k».proof.Proof.Contents
public import Idealize.ShloMosaic.Lib.Tactic

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Peers -/

/-- The device numbered `c` with the bits of `o + 1` flipped. -/
def pe (o : Fin 7) (c : Dev nD) : Dev nD := Fin.ofNat 8 (c.val ^^^ (o.val + 1))

theorem pe_pe : ∀ (o : Fin 7) (c : Dev nD), pe o (pe o c) = c := by decide
theorem pe_ne : ∀ (o : Fin 7) (c : Dev nD), pe o c ≠ c := by decide
theorem pe_inj : ∀ (c : Dev nD) (o o' : Fin 7), pe o c = pe o' c → o = o' := by decide

def peEquiv (o : Fin 7) : Dev nD ≃ Dev nD := ⟨pe o, pe o, pe_pe o, pe_pe o⟩
def peEmb (c : Dev nD) : Fin 7 ↪ Dev nD := ⟨fun o => pe o c, fun _ _ h => pe_inj c _ _ h⟩

theorem erase_eq_map : ∀ c : Dev nD, (Finset.univ : Finset (Dev nD)).erase c = Finset.univ.map (peEmb c) := by decide

omit [FloatOps F] in
/-- A conjunction over the devices is that of `c` and those of its seven peers. -/
theorem bigSep_peers (c : Dev nD) (Φ : Dev nD → sProp 𝕄) :
    bigSep Finset.univ Φ = iprop(Φ c ∗ bigSep Finset.univ fun o : Fin 7 => Φ (pe o c)) := by
  rw [bigSep_univ_at Φ c, erase_eq_map c, bigSep_map]; rfl

/-- The device a printed chain addresses, for the constant `o + 1`. -/
theorem dev_word : ∀ (o : Fin 7) (c : Dev nD),
    (Scalar.addi 0#32 (Scalar.muli (Scalar.xori (Scalar.remsi (Scalar.divsi (Dev.word c) 1#32) 8#32) (BitVec.ofNat 32 (1 + o.val))) 1#32)).toNat
      = (pe o c).val := by decide +kernel

/-- The offset of slot `d`. -/
abbrev offS (d : Dev nD) : Fin 3 → Nat := ![d.val, 0, 0]
theorem offS_inb : ∀ (d : Dev nD) (a : Fin 3), offS d a + S1x32x128.size a ≤ S8x32x128.size a := by decide

theorem off1_eq : ∀ c : Dev nD, k0_off1 c = offS c := by decide +kernel
theorem off2_eq : ∀ c : Dev nD, k0_off2 c = offS c := by decide +kernel
theorem off3_eq : ∀ (o : Fin 7) (c : Dev nD), k0_off3 c (BitVec.ofNat 32 (1 + o.val)) = offS (pe o c) := by decide +kernel

/-! ## Buffers and slots -/

abbrev xM : Memref sig .tc .vmem S256x128 .f32 := Memref.whole cc0_stg0_0
abbrev oM : Memref sig .tc .vmem S256x128 .f32 := Memref.whole cc0_stg1_0
/-- The two stage buffers, -/
def stM : Fin 2 → Memref sig .tc .vmem S8x32x128 .f32 := fun | 0 => Memref.whole cc0_scratch0 | 1 => Memref.whole cc0_scratch2
/-- and the two landing buffers. -/
def rcM : Fin 2 → Memref sig .tc .vmem S8x32x128 .f32 := fun | 0 => Memref.whole cc0_scratch1 | 1 => Memref.whole cc0_scratch3

/-- Slot `d` of an eight-slot buffer. -/
abbrev slotM (M : Memref sig .tc .vmem S8x32x128 .f32) (d : Dev nD) : Memref sig .tc .vmem S32x128 .f32 :=
  (M.slice (Rect.unit (s := S8x32x128) (offS d) S1x32x128.size (offS_inb d)) (fun _ => rfl)).squeeze S32x128 squeezes_S1x32x128_S32x128

abbrev slotRect (d : Dev nD) : Rect S8x32x128 := Rect.unit (s := S8x32x128) (offS d) S1x32x128.size (offS_inb d)

theorem mem_slotRect (d : Dev nD) (i : S8x32x128.Idx) : i ∈ (slotRect d).set ↔ slotOf i = d := by
  rw [Rect.mem_set_unit]
  constructor
  · intro h; have := h 0; apply Fin.ext
    have h1 : d.val ≤ (i 0 : Nat) := this.1
    have h2 : (i 0 : Nat) < d.val + 1 := this.2
    show (i 0 : Nat) = d.val
    omega
  · rintro rfl a
    match a with
    | 0 => exact ⟨Nat.le_refl _, Nat.lt_succ_self _⟩
    | 1 => exact ⟨Nat.zero_le _, by have := (i 1).isLt; exact (Nat.zero_add _).symm ▸ this⟩
    | 2 => exact ⟨Nat.zero_le _, by have := (i 2).isLt; exact (Nat.zero_add _).symm ▸ this⟩

theorem slot_set (M : Memref sig .tc .vmem S8x32x128 .f32) (d : Dev nD) : (slotM M d).view.set = (slotRect d).set.map M.view.emb :=
  (View.set_reshape _ _).trans (View.set_slice _ _)

theorem slotRect_emb (d e : Dev nD) (k : S1x32x128.Idx) :
    ((slotRect e).emb k : S8x32x128.Idx) = inSlot e ((slotRect d).emb k) := by
  have hk : (k 0 : Nat) = 0 := Nat.lt_one_iff.mp (k 0).isLt
  funext a; apply Fin.ext
  match a with
  | 0 =>
    refine Eq.trans ?_ (congrArg Fin.val (slotOf_inSlot e ((slotRect d).emb k))).symm
    show e.val + 1 * (k 0 : Nat) = e.val
    rw [hk]; omega
  | 1 => rfl
  | 2 => rfl

/-- The same place of two slots. -/
theorem slot_emb (M M' : Memref sig .tc .vmem S8x32x128 .f32) (d e : Dev nD) (j : S32x128.Idx) :
    ∃ i : S8x32x128.Idx, slotOf i = d ∧ (slotM M d).view.emb j = M.view.emb i ∧ (slotM M' e).view.emb j = M'.view.emb (inSlot e i) := by
  refine ⟨(slotRect d).emb (Shape.reshapeEquiv squeezes_S1x32x128_S32x128.numel_eq j), ?_, rfl, ?_⟩
  · rw [← mem_slotRect]; rw [← Rect.map_emb_univ]; exact Finset.mem_map_of_mem _ (Finset.mem_univ _)
  · rw [← slotRect_emb d e]; rfl

theorem slot_disjoint (M : Memref sig .tc .vmem S8x32x128 .f32) (d e : Dev nD) (h : d ≠ e) :
    Disjoint (α := Finset M.view.ty.Idx) (slotM M d).view.set (slotM M e).view.set := by
  rw [slot_set, slot_set, Finset.disjoint_map, Finset.disjoint_left]
  intro i h1 h2
  exact h (((mem_slotRect d i).mp h1).symm.trans ((mem_slotRect e i).mp h2))

theorem slot_cover (b : Memref sig .tc .vmem S8x32x128 .f32) :
    (Finset.univ.biUnion fun d : Dev nD => ((slotM b d).view.set : Finset b.view.ty.Idx)) = b.view.set := by
  ext i
  rw [Finset.mem_biUnion]
  constructor
  · rintro ⟨d, -, h⟩; rw [slot_set] at h
    obtain ⟨k, -, rfl⟩ := Finset.mem_map.mp h
    exact View.emb_mem_set _ k
  · intro h
    obtain ⟨k, -, rfl⟩ := Finset.mem_map.mp h
    refine ⟨slotOf k, Finset.mem_univ _, ?_⟩
    rw [slot_set]; exact Finset.mem_map_of_mem _ ((mem_slotRect _ _).mpr rfl)

/-! ## Contents -/

/-- Device `c`'s block as staged, -/
def xstg (c : Dev nD) : Vec F S256x128 .f32 :=
  (win0_0.blk (0 : Fin 1)).view.read (Elt F) ((s₀ m ρ).mem ((c : Thread nD τ).loc main_arg0))
/-- sorted and stored for the first exchange; -/
def z1 (c : Dev nD) : Vec F S8x32x128 .f32 := locOut c (xstg m ρ c)
/-- what it received, merged and stored for the second; -/
def z2 (c : Dev nD) : Vec F S8x32x128 .f32 := mrgOut (exch (z1 m ρ) c)
/-- and its block of the result. -/
def outV (c : Dev nD) : Vec F S256x128 .f32 := finOut (exch (z2 m ρ) c)

/-- The stage buffers' contents, -/
def stC : (q : Fin 2) → (c : Dev nD) → Buf (Elt F) ((stM q).view.loc (c : Thread nD τ)) := fun | 0 => z1 m ρ | 1 => z2 m ρ
/-- and the landing buffers' when every slot has landed. -/
def rcC : (q : Fin 2) → (c : Dev nD) → Buf (Elt F) ((rcM q).view.loc (c : Thread nD τ)) := fun | 0 => exch (z1 m ρ) | 1 => exch (z2 m ρ)

/-- Slot `d` of a buffer of device `c` held at `f`. -/
def slotPts (M : Memref sig .tc .vmem S8x32x128 .f32) (c d : Dev nD) (f : Buf (Elt F) (M.view.loc (c : Thread nD τ))) : sProp 𝕄 :=
  ((slotM M d).view.loc (c : Thread nD τ)) ↦[(slotM M d).view.set]{fullShare} f

omit [FloatOps F] in
instance slotPts_storable (M) (c d : Dev nD) (f) : BI.Storable (upEmb : UEmb _ 𝕄) (slotPts (F := F) M c d f) := by unfold slotPts; infer_instance

omit [FloatOps F] in
/-- An eight-slot buffer is its own slot and the seven peers'. -/
theorem slots_split (M : Memref sig .tc .vmem S8x32x128 .f32) (c : Dev nD) (f : Buf (Elt F) (M.view.loc (c : Thread nD τ))) :
    (M.view.loc (c : Thread nD τ) ↦[M.view.set]{fullShare} f : sProp 𝕄)
      = iprop(slotPts M c c f ∗ bigSep Finset.univ fun o : Fin 7 => slotPts M c (pe o c) f) := by
  rw [← bigSep_peers c fun d => slotPts M c d f, ← slot_cover M,
    pointsTo_biUnion Finset.univ _ fun d _ e _ h => slot_disjoint M d e h]
  rfl

/-- What device `c` sends `pe o c` is what `pe o c` is to hold in slot `c`. -/
theorem sent_eq (q : Fin 2) (c p : Dev nD) (fd : Buf (Elt F) ((rcM q).view.loc (p : Thread nD τ))) :
    (((slotM (rcM q) c).view.loc (p : Thread nD τ)) ↦[(slotM (rcM q) c).view.set]{fullShare}
        ((slotM (rcM q) c).view.write (Elt F) fd ((slotM (stM q) p).view.read (Elt F) (stC m ρ q c)) Finset.univ) : sProp 𝕄)
      = slotPts (rcM q) p c (rcC m ρ q p) := by
  unfold slotPts
  refine pointsTo_congr fun i hi => ?_
  obtain ⟨j, -, rfl⟩ := Finset.mem_map.mp hi
  rw [View.write_emb_of_mem _ _ (Finset.mem_univ j), View.read_apply]
  obtain ⟨k, hk, h1, h2⟩ := slot_emb (rcM q) (stM q) c p j
  rw [h1, h2]
  subst hk
  match q with
  | 0 => rfl
  | 1 => rfl

/-! ## Cells -/

/-- The runtime's barrier semaphore. -/
abbrev barS : Sem sig := (SemArray.scalar (sig.barrier 0 rfl) : Sems sig S_).sem

/-- The transfers' semaphores: of exchange `q`, send (`0`) or receive (`1`), peer `o`. -/
abbrev X : Type := Fin 2 × Fin 2 × Fin 7
def semA : Fin 2 → Fin 2 → DmaSems sig S7 := fun
  | 0, 0 => cc0_scratch4 | 0, 1 => cc0_scratch5 | 1, 0 => cc0_scratch6 | 1, 1 => cc0_scratch7
theorem sem_inb : ∀ (o : Fin 7) (a : Fin 1), (![o.val] : Fin 1 → Nat) a + S1.size a ≤ S7.size a := by decide
abbrev dq (x : X) : DmaSem sig :=
  (((semA x.1 x.2.1).slice (Rect.unit (s := S7) ![x.2.2.val] S1.size (sem_inb x.2.2))).squeeze S_ squeezes_S1_S_).sem

abbrev barCell (c : Dev nD) : GSem nD τ sig := ((c : Thread nD τ), .reg barS)
abbrev xCell (c : Dev nD) (x : X) : GSem nD τ sig := ((c : Thread nD τ), .dma (dq x))

/-- The kernel's own semaphores: all but the barrier's. -/
abbrev osem : X → SemLoc sig := fun x => .dma (dq x)
abbrev csem : Option X → SemLoc sig := fun | none => .reg barS | some x => .dma (dq x)
abbrev kcell (ck : Dev nD × Option X) : GSem nD τ sig := ((ck.1 : Thread nD τ), csem ck.2)

theorem dq_val : ∀ x : X, (dq x).val = 2 + 14 * x.1.val + 7 * x.2.1.val + x.2.2.val := by decide +kernel
theorem dq_inj : Function.Injective dq := by
  rintro ⟨a, b, o⟩ ⟨a', b', o'⟩ h
  have h1 := dq_val (a, b, o); have h2 := dq_val (a', b', o')
  rw [h, h2] at h1
  simp only at h1
  have := a.isLt; have := b.isLt; have := o.isLt; have := a'.isLt; have := b'.isLt; have := o'.isLt
  have e1 : a = a' := Fin.ext (by omega)
  have e2 : b = b' := Fin.ext (by omega)
  have e3 : o = o' := Fin.ext (by omega)
  rw [e1, e2, e3]

/-- Which of the transfers' semaphores a DMA semaphore is. -/
def decode (q : DmaSem sig) : Option X :=
  if h : 2 ≤ q.val then
    some (⟨(q.val - 2) / 14, by have : q.val < 30 := q.isLt; omega⟩,
      ⟨(q.val - 2) / 7 % 2, by omega⟩, ⟨(q.val - 2) % 7, by omega⟩)
  else none
theorem decode_dq (x : X) : decode (dq x) = some x := by
  have h := dq_val x
  obtain ⟨a, b, o⟩ := x
  have := a.isLt; have := b.isLt; have := o.isLt
  simp only at h
  unfold decode
  rw [dif_pos (by omega)]
  congr 1
  refine Prod.ext (Fin.ext ?_) (Prod.ext (Fin.ext ?_) (Fin.ext ?_)) <;> simp only <;> omega

/-- Which of the protocol's semaphores a semaphore is. -/
def kind : SemLoc sig → Option (Option X)
  | .reg s => if s = barS then some none else none
  | .dma q => (decode q).map some
theorem kind_csem (k : Option X) : kind (csem k) = some k := by
  match k with
  | none => show (if barS = barS then some none else none) = _; exact if_pos rfl
  | some x => show (decode (dq x)).map some = some (some x); rw [decode_dq]; rfl
theorem csem_inj : Function.Injective csem := fun a b h => Option.some.inj ((kind_csem a).symm.trans ((congrArg kind h).trans (kind_csem b)))
theorem kcell_inj : Function.Injective kcell := fun a b h => by
  have h1 : a.1 = b.1 := congrArg (fun g : GSem nD τ sig => g.1.1) h
  have h2 : a.2 = b.2 := csem_inj (congrArg (fun g : GSem nD τ sig => g.2) h)
  exact Prod.ext h1 h2

/-- What one transfer's landing adds to its semaphores. -/
def N : ℕ := (slotM (rcM 0) 0).view.dmaCredit
theorem N_eq (q : Fin 2) (d : Dev nD) : (slotM (rcM q) d).view.dmaCredit = N := by
  match q with
  | 0 => rfl
  | 1 => rfl
theorem N_eq_st (q : Fin 2) (d : Dev nD) : (slotM (stM q) d).view.dmaCredit = N := by
  match q with
  | 0 => rfl
  | 1 => rfl
theorem N_pos : 0 < N := by decide +kernel

/-! ## The schedule -/

/-- Slot `d` of both landing buffers of device `c`. -/
def land (c d : Dev nD) : sProp 𝕄 := iprop((∃ f, slotPts (rcM 0) c d f) ∗ (∃ f, slotPts (rcM 1) c d f))
omit [FloatOps F] in
instance land_storable (c d : Dev nD) : BI.Storable (upEmb : UEmb _ 𝕄) (land (F := F) c d) := by unfold land; infer_instance

/-- What a transfer's semaphore of device `c` yields: on the send side the stage's slot, on the receive side the landed slot. -/
def xPay (x : X) (c : Dev nD) : sProp 𝕄 :=
  match x with
  | (q, 0, o) => slotPts (stM q) c (pe o c) (stC m ρ q c)
  | (q, 1, o) => slotPts (rcM q) c (pe o c) (rcC m ρ q c)
instance xPay_storable (x : X) (c : Dev nD) : BI.Storable (upEmb : UEmb _ 𝕄) (xPay m ρ x c) := by
  obtain ⟨q, s, o⟩ := x
  match s with
  | 0 => show BI.Storable _ (slotPts _ _ _ _); infer_instance
  | 1 => show BI.Storable _ (slotPts _ _ _ _); infer_instance

/-- The duties of a cell of that kind, -/
def dutiesK : Option (Option X) → Finset (Fin 7) | some none => Finset.univ | some (some _) => {0} | none => ∅
/-- their amounts, -/
def amountK : Option (Option X) → ℕ | some (some _) => N | _ => 1
/-- and their payloads. -/
def payloadK (c : Dev nD) (o : Fin 7) : Option (Option X) → sProp 𝕄
  | some none => land (pe o c) c | some (some x) => xPay m ρ x c | none => iprop(emp)

def Rd : Rounds.Schedule (GSem nD τ sig) (Fin 7) 𝕄 where
  duties g r := if r = 0 ∧ g.1.2 = .tc then dutiesK (kind g.2) else ∅
  unitless _ := False
  amount g _ _ := amountK (kind g.2)
  payload g _ o := payloadK m ρ g.1.1 o (kind g.2)
  amount_pos g _ _ _ := by
    match h : kind g.2 with
    | none => exact Nat.one_pos
    | some none => exact Nat.one_pos
    | some (some _) => exact N_pos

instance Rd_payload_storable (g : GSem nD τ sig) (r : ℕ) (o : Fin 7) :
    BI.Storable (upEmb : UEmb _ 𝕄) ((Rd (F := F) m ρ).payload g r o) := by
  show BI.Storable _ (payloadK m ρ g.1.1 o (kind g.2))
  match kind g.2 with
  | none => show BI.Storable _ iprop(emp); infer_instance
  | some none => show BI.Storable _ (land _ _); infer_instance
  | some (some x) => show BI.Storable _ (xPay m ρ x _); infer_instance

section Tables
variable (c : Dev nD) (x : X)

theorem duties_k (k : Option X) : (Rd (F := F) m ρ).duties (kcell (c, k)) 0 = dutiesK (some k) := by
  dsimp only [Rd]; rw [if_pos ⟨rfl, rfl⟩, kind_csem]
theorem duties_bar : (Rd (F := F) m ρ).duties (barCell c) 0 = Finset.univ := duties_k m ρ c none
theorem duties_x : (Rd (F := F) m ρ).duties (xCell c x) 0 = {0} := duties_k m ρ c (some x)
theorem duties_later (g : GSem nD τ sig) : ∀ r, 1 ≤ r → (Rd (F := F) m ρ).duties g r = ∅ :=
  fun r hr => by dsimp only [Rd]; rw [if_neg fun h => by omega]
theorem amount_bar (o : Fin 7) : (Rd (F := F) m ρ).amount (barCell c) 0 o = 1 := congrArg amountK (kind_csem none)
theorem amount_x (o : Fin 7) : (Rd (F := F) m ρ).amount (xCell c x) 0 o = N := congrArg amountK (kind_csem (some x))
theorem payload_bar (o : Fin 7) : (Rd (F := F) m ρ).payload (barCell c) 0 o = land (pe o c) c := congrArg (payloadK m ρ c o) (kind_csem none)
theorem payload_x (o : Fin 7) : (Rd (F := F) m ρ).payload (xCell c x) 0 o = xPay m ρ x c := congrArg (payloadK m ρ c o) (kind_csem (some x))
theorem expect_bar : (Rd (F := F) m ρ).expect (barCell c) 0 = 7 := by
  unfold Schedule.expect Schedule.amountOf
  rw [duties_bar, Finset.sum_congr rfl fun o _ => amount_bar m ρ c o, Finset.sum_const, Finset.card_univ, Fintype.card_fin, smul_eq_mul]
theorem expect_x : (Rd (F := F) m ρ).expect (xCell c x) 0 = N := by
  unfold Schedule.expect Schedule.amountOf; rw [duties_x, Finset.sum_singleton, amount_x]
theorem rest_bar : bigSep ((Rd (F := F) m ρ).duties (barCell c) 0 \ ∅) (fun o => (Rd (F := F) m ρ).payload (barCell c) 0 o)
    = bigSep Finset.univ fun o => land (pe o c) c := by
  rw [Finset.sdiff_empty, duties_bar]; exact congrArg (bigSep Finset.univ) (funext fun o => payload_bar m ρ c o)
theorem rest_x : bigSep ((Rd (F := F) m ρ).duties (xCell c x) 0 \ ∅) (fun o => (Rd (F := F) m ρ).payload (xCell c x) 0 o) = xPay m ρ x c := by
  rw [Finset.sdiff_empty, duties_x, bigSep_singleton, payload_x]

end Tables

/-! ## What a device owes; the levels -/

/-- The seven peers' indices in program order. -/
abbrev os₀ : List (Fin 7) := [0, 1, 2, 3, 4, 5, 6]

/-- A base and the summands of a list, the first last. -/
def sumL (O : CellTallies nD τ sig Unit) (f : Fin 7 → CellTallies nD τ sig Unit) : List (Fin 7) → CellTallies nD τ sig Unit
  | [] => O
  | o :: os => sumL O f os + f o

/-- What `c` owes of exchange `q` when the transfers `os` are still to be sent, and before all of exchange `1`. -/
def oweS (c : Dev nD) : Fin 2 → List (Fin 7) → CellTallies nD τ sig Unit
  | 1, os => sumL 0 (fun o => tallyAt (xCell (pe o c) (1, 1, o)) () N) os
  | 0, os => sumL (sumL 0 (fun o => tallyAt (xCell (pe o c) (1, 1, o)) () N) os₀) (fun o => tallyAt (xCell (pe o c) (0, 1, o)) () N) os
/-- What it owes while the signals `os` are still to be made. -/
def oweB (c : Dev nD) (os : List (Fin 7)) : CellTallies nD τ sig Unit :=
  sumL (oweS c 0 os₀) (fun o => tallyAt (barCell (pe o c)) () 1) os

theorem oweS_cons (c : Dev nD) (q : Fin 2) (o : Fin 7) (os : List (Fin 7)) :
    oweS c q (o :: os) = oweS c q os + tallyAt (xCell (pe o c) (q, 1, o)) () N := by
  match q with
  | 0 => rfl
  | 1 => rfl

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvK : Option (Option X) → ℕ
  | some none => 1 | some (some (q, 1, _)) => 2 + q.val | _ => 0
def lv (g : GSem nD τ sig) (_ : Unit) : ℕ := lvK (kind g.2)

/-- Every debt of a device is one of the protocol's cells above the level `n`. -/
def Above (n : ℕ) (O : CellTallies nD τ sig Unit) : Prop :=
  ∀ g u, 0 < O g u → ∃ (d : Dev nD) (k : Option X), g = kcell (d, k) ∧ n < lvK (some k)

theorem above_zero (n : ℕ) : Above n 0 := fun g u h => absurd h (Nat.lt_irrefl 0)
theorem above_add {n : ℕ} {O : CellTallies nD τ sig Unit} (hO : Above n O) (d : Dev nD) (k : Option X) (a : ℕ) (hk : n < lvK (some k)) :
    Above n (O + tallyAt (kcell (d, k)) () a) := by
  intro g u h
  rw [Pi.add_apply, Finsupp.add_apply, tallyAt_apply] at h
  by_cases hg : g = kcell (d, k) ∧ u = ()
  · exact ⟨d, k, hg.1, hk⟩
  · rw [if_neg hg, Nat.add_zero] at h; exact hO g u h
theorem above_sumL {n : ℕ} {O : CellTallies nD τ sig Unit} (hO : Above n O) (d : Fin 7 → Dev nD) (k : Fin 7 → Option X) (a : ℕ)
    (hk : ∀ o, n < lvK (some (k o))) : ∀ os, Above n (sumL O (fun o => tallyAt (kcell (d o, k o)) () a) os)
  | [] => hO
  | o :: os => above_add (above_sumL hO d k a hk os) (d o) (k o) a (hk o)

theorem above_S1 (c : Dev nD) (n : ℕ) (hn : n < 3) (os : List (Fin 7)) : Above n (oweS c 1 os) :=
  above_sumL (above_zero n) (fun o => pe o c) (fun o => some (1, 1, o)) N (fun _ => hn) os
theorem above_S0 (c : Dev nD) (n : ℕ) (hn : n < 2) (os : List (Fin 7)) : Above n (oweS c 0 os) :=
  above_sumL (above_S1 c n (by omega) os₀) (fun o => pe o c) (fun o => some (0, 1, o)) N (fun _ => hn) os
theorem above_B (c : Dev nD) (os : List (Fin 7)) : Above 0 (oweB c os) :=
  above_sumL (above_S0 c 0 (by omega) os₀) (fun o => pe o c) (fun o => none) 1 (fun _ => Nat.one_pos) os

/-- A device may wait at a level below all it owes. -/
theorem mayWait_of_above (c : Dev nD) (sm : SemLoc sig) (n : ℕ) (hn : lvK (kind sm) ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact hn)
    (fun g u hg => by obtain ⟨d, k, rfl, h⟩ := hO g u hg; show n < lvK (kind (csem k)); rw [kind_csem]; exact h)

/-! ## Lists of resources -/

def sepL (Φ : Fin 7 → sProp 𝕄) : List (Fin 7) → sProp 𝕄
  | [] => iprop(emp)
  | o :: os => iprop(Φ o ∗ sepL Φ os)
omit [FloatOps F] in
theorem sepL_cons (Φ : Fin 7 → sProp 𝕄) (o : Fin 7) (os : List (Fin 7)) : sepL Φ (o :: os) = iprop(Φ o ∗ sepL Φ os) := rfl

omit [FloatOps F] in
theorem sepL_univ (Φ : Fin 7 → sProp 𝕄) (os : List (Fin 7)) (hn : os.Nodup) (hm : ∀ o, o ∈ os) : sepL Φ os = bigSep Finset.univ Φ := by
  have key : ∀ (os : List (Fin 7)), os.Nodup → sepL Φ os = bigSep os.toFinset Φ := by
    intro os
    induction os with
    | nil => intro _; exact bigSep_empty.symm
    | cons o os ih =>
      intro h
      rw [List.nodup_cons] at h
      rw [List.toFinset_cons, bigSep_insert (fun h' => h.1 (List.mem_toFinset.mp h')), ← ih h.2]
      rfl
  rw [key os hn]
  exact congrArg (fun s => bigSep s Φ) (Finset.eq_univ_iff_forall.mpr fun o => List.mem_toFinset.mpr (hm o))

omit [FloatOps F] in
theorem sepL_os (Φ : Fin 7 → sProp 𝕄) : sepL Φ os₀ = bigSep Finset.univ Φ := sepL_univ Φ os₀ (by decide) (by decide)
omit [FloatOps F] in
theorem sepL_rev (Φ : Fin 7 → sProp 𝕄) : sepL Φ [6, 5, 4, 3, 2, 1, 0] = bigSep Finset.univ Φ := sepL_univ Φ _ (by decide) (by decide)

/-! ## The records -/

/-- What every device knows throughout: the invariants of all cells, that each is at round `0`, the levels. -/
def records (K : Dev nD × Option X → ℕ) : sProp 𝕄 :=
  iprop((bigSep Finset.univ fun ck => cellInv ER (Rd m ρ) (K ck) (kcell ck)) ∗ (bigSep Finset.univ fun ck => reached ER (kcell ck) 0) ∗ levAts L lv)

instance records_persistent (K : Dev nD × Option X → ℕ) : BI.Persistent (records m ρ K) := by unfold records; infer_instance

theorem records_inv (K) (c : Dev nD) (k : Option X) : records m ρ K ⊢ cellInv ER (Rd m ρ) (K (c, k)) (kcell (c, k)) :=
  sep_elim_left.trans (bigSep_elim (Finset.mem_univ (c, k)))
theorem records_reached (K) (c : Dev nD) (k : Option X) : records m ρ K ⊢ reached ER (kcell (c, k)) 0 :=
  sep_elim_right.trans (sep_elim_left.trans (bigSep_elim (Finset.mem_univ (c, k))))
theorem records_lev (K) : records m ρ K ⊢ levAts L lv := sep_elim_right.trans sep_elim_right

end Cert.Exchange

end
-- ==== Proof.Steps.lean ====
/-
# The body's steps

One rule for each kind of effect of the kernel, at any peer: a barrier signal, the barrier wait, a transfer, a wait on a transfer's semaphore,
the copy of the own slot. Each moves the head of a list of resources.
-/
module

public import proofs.«01_k».proof.Proof.Protocol

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A device's debts, whatever it has waited for. -/
def debt (c : Dev nD) (O : CellTallies nD τ sig Unit) : sProp 𝕄 := iprop(∃ W, owes (c : Thread nD τ) O W)

/-- Before the signals `os`: the barrier duties' tokens and the landing slots to hand over. -/
def stA (c : Dev nD) (os : List (Fin 7)) : sProp 𝕄 :=
  iprop(debt c (oweB c os) ∗ sepL (fun o => iprop(dutyTok ER (barCell (pe o c)) 0 o ∗ land c (pe o c))) os)

/-- What the transfer to `pe o c` takes. -/
def item (q : Fin 2) (c : Dev nD) (o : Fin 7) : sProp 𝕄 :=
  iprop(slotPts (stM q) c (pe o c) (stC m ρ q c) ∗ (∃ f, slotPts (rcM q) (pe o c) c f)
    ∗ dutyTok ER (xCell c (q, 0, o)) 0 0 ∗ dutyTok ER (xCell (pe o c) (q, 1, o)) 0 0)

/-- Before the transfers `os` of exchange `q`, after those of `ds`. -/
def stS (q : Fin 2) (c : Dev nD) (os ds : List (Fin 7)) : sProp 𝕄 :=
  iprop(debt c (oweS c q os) ∗ sepL (item m ρ q c) os ∗ sepL (fun o => cred (tallyAt (xCell c (q, 0, o)) () N)) ds)

/-- Before the waits `os` on side `s` of exchange `q`, after those of `ds`. -/
def stX (O : CellTallies nD τ sig Unit) (q s : Fin 2) (c : Dev nD) (os ds : List (Fin 7)) : sProp 𝕄 :=
  iprop(debt c O ∗ sepL (fun o => iprop(cred (tallyAt (xCell c (q, s, o)) () N) ∗ atPos ER (xCell c (q, s, o)) 0 ∅ 0)) os
    ∗ sepL (fun o => iprop(semVal (xCell c (q, s, o)) 0 ∗ xPay m ρ (q, s, o) c)) ds)

variable (K : Dev nD × Option X → ℕ)

section Steps

theorem step_signal {α : Type} {Q : α → sProp 𝕄} {k : PUnit → Prog (TpuEff nD τ sig (Elt F) Λ₀ .tc) α} (c n : Dev nD) (o : Fin 7) (os : List (Fin 7)) (hn : n = pe o c) {a : ℕ} (ha : 1 = a) :
    iprop(records m ρ K ∗ stA c (o :: os))
      ⊢ iprop((stA c os -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS a) k) Q) := by
  subst hn
  unfold stA debt
  rw [sepL_cons]
  iintro ⟨#HR, ⟨%W, HO⟩, ⟨Htok, Hland⟩, Hrest⟩ Hk
  iapply (Rounds.wp_signal 𝒱₀ ER (Rd m ρ) (c : Thread nD τ) none (dst := (pe o c : Thread nD τ)) (κ := K (pe o c, none)) (r := 0)
      (d := o) (by rw [duties_bar]; exact Finset.mem_univ _) ((amount_bar m ρ (pe o c) o).trans ha) () (oweB c os) (by subst ha; rfl)) $$ [HO Htok Hland]
  · isplitr; · iapply (records_inv m ρ K (pe o c) none); iexact HR
    isplitl [HO]; · iexact HO
    isplitl [Htok]; · iexact Htok
    isplitl [Hland]
    · rw [payload_bar, pe_pe]; iexact Hland
    iapply (records_reached m ρ K (pe o c) none); iexact HR
  iintro HO
  iapply Hk
  isplitl [HO]; · iexists W; iexact HO
  iexact Hrest

theorem step_barrier {α : Type} {Q : α → sProp 𝕄} {k : PUnit → Prog (TpuEff nD τ sig (Elt F) Λ₀ .tc) α} (c : Dev nD) {a : ℕ} (ha : a = 7) :
    iprop(records m ρ K ∗ debt c (oweB c []) ∗ cred (tallyAt (barCell c) () 7) ∗ atPos ER (barCell c) 0 ∅ 0)
      ⊢ iprop(((debt c (oweS c 0 os₀) ∗ semVal (barCell c) 0 ∗ sepL (fun o => land (pe o c) c) os₀)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS a) k) Q) := by
  subst ha
  unfold debt
  rw [show oweB c [] = oweS c 0 os₀ from rfl]
  iintro ⟨#HR, ⟨%W, HO⟩, Hc, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := oweS c 0 os₀) (W := W) (R := 0) (m := 0) (T := ∅)
      (by rw [Nat.zero_add, expect_bar])) $$ [Hc HO Hat]
  · isplitr; · iapply (records_inv m ρ K c none); iexact HR
    isplitl [Hc]; · iexact Hc
    isplitl [HO]; · iexact HO
    isplitr
    · iapply (mayWait_of_above c (.reg barS) 1 (by rw [kind_csem none]; exact Nat.le_refl 1) (above_S0 c 1 (by omega) os₀))
      iapply (records_lev m ρ K); iexact HR
    iexact Hat
  iintro ⟨HO, Hat, -, Hpay⟩
  imod (Rounds.cell_close ER (Rd m ρ) (Set.mem_univ (K (c, none))) (fun h => h) (R := 0 + 1) (duties_later m ρ (barCell c))) $$ [Hat] with Hz
  · isplitr; · iapply (records_inv m ρ K c none); iexact HR
    iexact Hat
  iapply Hk
  isplitl [HO]; · iexists _; iexact HO
  isplitl [Hz]; · iexact Hz
  rw [sepL_os]
  iapply (Entails.of_eq (rest_bar m ρ c)); iexact Hpay

theorem step_send {α : Type} {Q : α → sProp 𝕄} {k : PUnit → Prog (TpuEff nD τ sig (Elt F) Λ₀ .tc) α} (q : Fin 2) (c n : Dev nD) (o : Fin 7) (os ds : List (Fin 7)) (hn : n = pe o c)
    {o2 o3 : Fin 3 → Nat} (h2 : o2 = offS c) (h3 : o3 = offS (pe o c))
    {b2 : ∀ a, o2 a + S1x32x128.size a ≤ S8x32x128.size a} {b3 : ∀ a, o3 a + S1x32x128.size a ≤ S8x32x128.size a}
    {t2 : ∀ a, (Rect.unit (s := S8x32x128) o2 S1x32x128.size b2).stride a = 1} {t3 : ∀ a, (Rect.unit (s := S8x32x128) o3 S1x32x128.size b3).stride a = 1}
    {sS sR : DmaSem sig} (hS : sS = dq (q, 0, o)) (hR : sR = dq (q, 1, o))
    {src dst : Memref sig .tc .vmem S32x128 .f32}
    (hsrc' : src = ((stM q).slice (Rect.unit (s := S8x32x128) o3 S1x32x128.size b3) t3).squeeze S32x128 squeezes_S1x32x128_S32x128)
    (hdst' : dst = ((rcM q).slice (Rect.unit (s := S8x32x128) o2 S1x32x128.size b2) t2).squeeze S32x128 squeezes_S1x32x128_S32x128)
    {hsc : (dst : Memref sig (n : Thread nD τ).2.kind .vmem S32x128 .f32).view.ref.isScScratch = false}
    {hsrc : src.view.WordExact} {hdst : (dst : Memref sig (n : Thread nD τ).2.kind .vmem S32x128 .f32).view.WordExact}
    {hsem : DmaTarget.Typed .vmem (.dma sR) (.remote (n : Thread nD τ) dst (.dma sS) hsc)} :
    iprop(records m ρ K ∗ stS m ρ q c (o :: os) ds)
      ⊢ iprop((stS m ρ q c os (o :: ds) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (n : Thread nD τ) dst (.dma sS) hsc) (.dma sR) hsrc hdst hsem) k) Q) := by
  subst hn hS hR h2 h3 hsrc' hdst'
  unfold stS debt
  rw [oweS_cons, sepL_cons, sepL_cons]
  iintro ⟨#HR, ⟨%W, HO⟩, Hos, Hds⟩ Hk
  unfold item slotPts
  icases Hos with ⟨⟨Hs, ⟨%fd, Hd⟩, HtS, HtR⟩, Hrest⟩
  iapply (Rounds.wp_send_pointsTo 𝒱₀ ER (Rd m ρ) (c : Thread nD τ) none (c' := (pe o c : Thread nD τ)) (src := slotM (stM q) (pe o c)) (dst := slotM (rcM q) c) (sS := .dma (dq (q, 0, o))) (sem := .dma (dq (q, 1, o)))
      (κ₁ := K (c, some (q, 0, o))) (κ₂ := K (pe o c, some (q, 1, o)))
      (q := fullShare) (fs := stC m ρ q c) (fd := fd) (r₁ := 0) (r₂ := 0) (d₁ := 0) (d₂ := 0)
      (by rw [duties_x]; exact Finset.mem_singleton_self _) (by rw [duties_x]; exact Finset.mem_singleton_self _)
      () () N (N_eq q c) (amount_x m ρ c (q, 0, o) 0) (amount_x m ρ (pe o c) (q, 1, o) 0) (oweS c q os) rfl (W := W)
      (by rw [payload_x]; exact BI.Entails.refl _)
      (by rw [payload_x, sent_eq]; show _ ⊢ slotPts _ _ _ _; rw [pe_pe])) $$ [Hs Hd HO HtS HtR]
  · isplitr; · iapply (records_inv m ρ K c (some (q, 0, o))); iexact HR
    isplitr; · iapply (records_inv m ρ K (pe o c) (some (q, 1, o))); iexact HR
    isplitl [Hs]; · iexact Hs
    isplitl [Hd]; · iexact Hd
    isplitl [HO]; · iexact HO
    isplitl [HtS]; · iexact HtS
    isplitr; · iapply (records_reached m ρ K c (some (q, 0, o))); iexact HR
    isplitl [HtR]; · iexact HtR
    iapply (records_reached m ρ K (pe o c) (some (q, 1, o))); iexact HR
  iintro ⟨Hc, HO⟩
  iapply Hk
  isplitl [HO]; · iexists W; iexact HO
  isplitl [Hrest]; · iexact Hrest
  isplitl [Hc] <;> iassumption

theorem step_wait {α : Type} {Q : α → sProp 𝕄} {k : PUnit → Prog (TpuEff nD τ sig (Elt F) Λ₀ .tc) α} (q s : Fin 2) (c : Dev nD) (o : Fin 7) (os ds : List (Fin 7)) {O : CellTallies nD τ sig Unit}
    (hO : Above (lvK (some (some (q, s, o)))) O) {sm : DmaSem sig} (hsm : sm = dq (q, s, o))
    {src dst : Memref sig .tc .vmem S32x128 .f32} (hN : dst.view.dmaCredit = N)
    {hsrc : src.view.WordExact} {hdst : dst.view.WordExact} :
    iprop(records m ρ K ∗ stX m ρ O q s c (o :: os) ds)
      ⊢ iprop((stX m ρ O q s c os (o :: ds) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  subst hsm
  unfold stX debt
  rw [sepL_cons, sepL_cons]
  iintro ⟨#HR, ⟨%W, HO⟩, Hos, Hds⟩ Hk
  icases Hos with ⟨⟨Hc, Hat⟩, Hrest⟩
  iapply (Rounds.wp_wait_rest_token 𝒱₀ ER (Rd m ρ) (c : Thread nD τ) none (κ := K (c, some (q, s, o)))
      (wpE_waitDma2_eq 𝒱₀ (c : Thread nD τ) none Set.univ) (Set.mem_univ _) () (O := O) (W := W) (R := 0) (m := 0) (T := ∅)
      (by rw [Nat.zero_add, expect_x, hN])) $$ [Hc HO Hat]
  · isplitr; · iapply (records_inv m ρ K c (some (q, s, o))); iexact HR
    isplitl [Hc]; · rw [hN]; iexact Hc
    isplitl [HO]; · iexact HO
    isplitr
    · iapply (mayWait_of_above c (.dma (dq (q, s, o))) _ (by rw [kind_csem (some (q, s, o))]) hO)
      iapply (records_lev m ρ K); iexact HR
    iexact Hat
  iintro ⟨HO, Hat, -, Hpay⟩
  imod (Rounds.cell_close ER (Rd m ρ) (Set.mem_univ (K (c, some (q, s, o)))) (fun h => h) (R := 0 + 1) (duties_later m ρ (xCell c (q, s, o)))) $$ [Hat] with Hz
  · isplitr; · iapply (records_inv m ρ K c (some (q, s, o))); iexact HR
    iexact Hat
  iapply Hk
  isplitl [HO]; · iexists _; iexact HO
  isplitl [Hrest]; · iexact Hrest
  isplitl [Hz Hpay]
  · isplitl [Hz]; · iexact Hz
    iapply (Entails.of_eq (rest_x m ρ c (q, s, o))); iexact Hpay
  iexact Hds

/-! ## The own slot -/

omit [FloatOps F] in
/-- A slot by the view a load or a store of it goes through. -/
theorem slotPts_eq (M : Memref sig .tc .vmem S8x32x128 .f32) (c d : Dev nD) (f : Buf (Elt F) (M.view.loc (c : Thread nD τ))) :
    (slotPts M c d f : sProp 𝕄) = (((M.access (slotRect d)).loc (c : Thread nD τ)) ↦[(M.access (slotRect d)).set]{fullShare} f) := by
  unfold slotPts
  have h : (slotM M d).view.set = (M.access (slotRect d)).set := View.set_reshape _ _
  rw [h]

/-- The own slot copied from the stage holds what the landing buffer is to hold there. -/
theorem own_eq (q : Fin 2) (c : Dev nD) (f : Buf (Elt F) ((rcM q).view.loc (c : Thread nD τ))) :
    ((((rcM q).access (slotRect c)).loc (c : Thread nD τ)) ↦[((rcM q).access (slotRect c)).set]{fullShare}
        (((rcM q).access (slotRect c)).write (Elt F) f ((stM q).view.readAt (Elt F) (slotRect c).toLoadRect (stC m ρ q c)) Finset.univ) : sProp 𝕄)
      = slotPts (rcM q) c c (rcC m ρ q c) := by
  rw [slotPts_eq]
  refine pointsTo_congr fun i hi => ?_
  obtain ⟨j, -, rfl⟩ := Finset.mem_map.mp hi
  rw [View.write_emb_of_mem _ _ (Finset.mem_univ j)]
  have hk : slotOf ((slotRect c).emb j) = c := by
    rw [← mem_slotRect, ← Rect.map_emb_univ]; exact Finset.mem_map_of_mem _ (Finset.mem_univ _)
  have h2 : inSlot c ((slotRect c).emb j) = (slotRect c).emb j := by
    exact (congrArg (fun d => inSlot d ((slotRect c).emb j)) hk.symm).trans (inSlot_slotOf _)
  match q with
  | 0 =>
    show z1 m ρ c ((slotRect c).emb j) = z1 m ρ (slotOf ((slotRect c).emb j)) (inSlot c ((slotRect c).emb j))
    rw [hk, h2]
  | 1 =>
    show z2 m ρ c ((slotRect c).emb j) = z2 m ρ (slotOf ((slotRect c).emb j)) (inSlot c ((slotRect c).emb j))
    rw [hk, h2]

theorem step_own {α : Type} {Q : α → sProp 𝕄} {k : PUnit → Prog (TpuEff nD τ sig (Elt F) Λ₀ .tc) α} (q : Fin 2) (c : Dev nD)
    {A B : Memref sig .tc .vmem S8x32x128 .f32} (hA : A = stM q) (hB : B = rcM q)
    {o1 : Fin 3 → Nat} (h1 : o1 = offS c) {b1 : ∀ a, o1 a + S1x32x128.size a ≤ S8x32x128.size a}
    {g : Vec F S1x32x128 .f32 → FVec F S1x32x128 .f32} (hg : ∀ v, g v = v)
    {hl : A.view.LoadsAt (Rect.unit (s := S8x32x128) o1 S1x32x128.size b1).toLoadRect} {hl' : B.view.LoadsAt (Rect.unit (s := S8x32x128) o1 S1x32x128.size b1).toLoadRect}
    {hx : (B.access (Rect.unit (s := S8x32x128) o1 S1x32x128.size b1)).Stores Finset.univ}
    {hm : Finset.univ = Finset.univ ∨ ∀ a, (Rect.unit (s := S8x32x128) o1 S1x32x128.size b1).stride a = 1} :
    iprop(((stM q).view.loc (c : Thread nD τ) ↦[(stM q).view.set]{fullShare} stC m ρ q c) ∗ (∃ f, slotPts (rcM q) c c f))
      ⊢ iprop(((((stM q).view.loc (c : Thread nD τ) ↦[(stM q).view.set]{fullShare} stC m ρ q c) ∗ slotPts (rcM q) c c (rcC m ρ q c))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.load A (Rect.unit (s := S8x32x128) o1 S1x32x128.size b1).toLoadRect hl) fun v =>
            .op (.load B (Rect.unit (s := S8x32x128) o1 S1x32x128.size b1).toLoadRect hl') fun _ =>
              .op (.store B (Rect.unit (s := S8x32x128) o1 S1x32x128.size b1) (g v) Finset.univ hx hm) k) Q) := by
  subst hA hB h1
  iintro ⟨Hs, ⟨%f, Hr⟩⟩ Hk
  iapply (wp_load 𝒱₀ (c : Thread nD τ) none Set.univ (m := stM q) (View.setOn_subset_set _ _)) $$ Hs; iintro Hs
  rw [hg]
  ihave Hr := (Entails.of_eq (slotPts_eq (rcM q) c c f)) $$ Hr
  iapply (wp_load 𝒱₀ (c : Thread nD τ) none Set.univ (m := rcM q) (by rw [View.set_slice]; exact subset_rfl)) $$ Hr; iintro Hr
  iapply (wp_store 𝒱₀ (c : Thread nD τ) none Set.univ (m := rcM q) (r := slotRect c) (Mk := Finset.univ)
    (S := ((rcM q).access (slotRect c)).set) (f := f) subset_rfl) $$ Hr; iintro Hr
  iapply Hk
  isplitl [Hs]; · iexact Hs
  iapply (Entails.of_eq (own_eq m ρ q c f)); iexact Hr

/-! ## Entering and leaving the lists -/

theorem stA_intro (c : Dev nD) (f0 f1) :
    iprop(debt c (oweB c os₀) ∗ (bigSep Finset.univ fun o : Fin 7 => dutyTok ER (barCell (pe o c)) 0 o)
        ∗ (bigSep Finset.univ fun o : Fin 7 => slotPts (F := F) (rcM 0) c (pe o c) f0) ∗ (bigSep Finset.univ fun o : Fin 7 => slotPts (rcM 1) c (pe o c) f1))
      ⊢ stA c os₀ := by
  unfold stA; rw [sepL_os, ← bigSep_sep', ← bigSep_sep']
  refine sep_mono_right (bigSep_mono fun o _ => ?_)
  show iprop(dutyTok ER (barCell (pe o c)) 0 o ∗ slotPts (F := F) (rcM 0) c (pe o c) f0 ∗ slotPts (rcM 1) c (pe o c) f1)
    ⊢ iprop(dutyTok ER (barCell (pe o c)) 0 o ∗ land c (pe o c))
  unfold land
  iintro ⟨Ht, H0, H1⟩
  isplitl [Ht]; · iexact Ht
  isplitl [H0]; · iexists f0; iexact H0
  iexists f1; iexact H1

theorem land_split (c : Dev nD) :
    sepL (fun o => land (F := F) (pe o c) c) os₀
      = iprop((bigSep Finset.univ fun o : Fin 7 => iprop(∃ f, slotPts (rcM 0) (pe o c) c f)) ∗ (bigSep Finset.univ fun o : Fin 7 => iprop(∃ f, slotPts (rcM 1) (pe o c) c f))) := by
  rw [sepL_os, ← bigSep_sep']; rfl

theorem stS_intro (q : Fin 2) (c : Dev nD) :
    iprop(debt c (oweS c q os₀) ∗ (bigSep Finset.univ fun o : Fin 7 => slotPts (stM q) c (pe o c) (stC m ρ q c))
        ∗ (bigSep Finset.univ fun o : Fin 7 => iprop(∃ f, slotPts (rcM q) (pe o c) c f))
        ∗ (bigSep Finset.univ fun o : Fin 7 => dutyTok ER (xCell c (q, 0, o)) 0 0) ∗ (bigSep Finset.univ fun o : Fin 7 => dutyTok ER (xCell (pe o c) (q, 1, o)) 0 0))
      ⊢ stS m ρ q c os₀ [] := by
  unfold stS; rw [sepL_os, ← bigSep_sep', ← bigSep_sep', ← bigSep_sep']
  iintro ⟨HO, H⟩
  isplitl [HO]; · iexact HO
  isplitl [H]; · iexact H
  unfold sepL; iempintro

theorem stS_done (q : Fin 2) (c : Dev nD) :
    stS m ρ q c [] [6, 5, 4, 3, 2, 1, 0] ⊢ iprop(debt c (oweS c q []) ∗ bigSep Finset.univ fun o : Fin 7 => cred (tallyAt (xCell c (q, 0, o)) () N)) := by
  unfold stS; rw [sepL_rev]
  iintro ⟨HO, -, H⟩
  isplitl [HO] <;> iassumption

theorem stX_intro (O : CellTallies nD τ sig Unit) (q s : Fin 2) (c : Dev nD) :
    iprop(debt c O ∗ (bigSep Finset.univ fun o : Fin 7 => cred (tallyAt (xCell c (q, s, o)) () N)) ∗ (bigSep Finset.univ fun o : Fin 7 => atPos ER (xCell c (q, s, o)) 0 ∅ 0))
      ⊢ stX m ρ O q s c os₀ [] := by
  unfold stX; rw [sepL_os, ← bigSep_sep']
  iintro ⟨HO, H⟩
  isplitl [HO]; · iexact HO
  isplitl [H]; · iexact H
  unfold sepL; iempintro

theorem stX_done (O : CellTallies nD τ sig Unit) (q s : Fin 2) (c : Dev nD) :
    stX m ρ O q s c [] [6, 5, 4, 3, 2, 1, 0]
      ⊢ iprop(debt c O ∗ (bigSep Finset.univ fun o : Fin 7 => semVal (xCell c (q, s, o)) 0) ∗ (bigSep Finset.univ fun o : Fin 7 => xPay m ρ (q, s, o) c)) := by
  unfold stX; rw [sepL_rev, ← bigSep_sep']
  iintro ⟨HO, -, H⟩
  isplitl [HO] <;> iassumption

end Steps

end Cert.Exchange

end
-- ==== Proof.Body.lean ====
/-
# The body

The kernel on device `c`, run symbolically from what the launch hands it to what it hands back.
-/
module

public import proofs.«01_k».proof.Proof.Steps
public import Idealize.ShloMosaic.Lib.Pipeline.Value

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and ends with -/

/-- The records of the cells, without the levels. -/
def cellRecs (K : Dev nD × Option X → ℕ) : sProp 𝕄 :=
  iprop((bigSep Finset.univ fun ck => cellInv ER (Rd m ρ) (K ck) (kcell ck)) ∗ (bigSep Finset.univ fun ck => reached ER (kcell ck) 0))
instance cellRecs_persistent (K : Dev nD × Option X → ℕ) : BI.Persistent (cellRecs m ρ K) := by unfold cellRecs; infer_instance

/-- Device `c`'s positions on, and the tokens of its duties towards, the cells of exchange `q`. -/
def ghostQ (q : Fin 2) (c : Dev nD) : sProp 𝕄 :=
  iprop((bigSep Finset.univ fun o : Fin 7 => atPos ER (xCell c (q, 0, o)) 0 ∅ 0) ∗ (bigSep Finset.univ fun o : Fin 7 => atPos ER (xCell c (q, 1, o)) 0 ∅ 0)
    ∗ (bigSep Finset.univ fun o : Fin 7 => dutyTok ER (xCell c (q, 0, o)) 0 0) ∗ (bigSep Finset.univ fun o : Fin 7 => dutyTok ER (xCell (pe o c) (q, 1, o)) 0 0))
/-- And on all cells. -/
def ghost (c : Dev nD) : sProp 𝕄 :=
  iprop(atPos ER (barCell c) 0 ∅ 0 ∗ (bigSep Finset.univ fun o : Fin 7 => dutyTok ER (barCell (pe o c)) 0 o) ∗ ghostQ 0 c ∗ ghostQ 1 c)

/-- The landings' credits of exchange `q`. -/
def credQ (q : Fin 2) (c : Dev nD) : sProp 𝕄 := bigSep Finset.univ fun o : Fin 7 => cred (tallyAt (xCell c (q, 1, o)) () N)

def start (c : Dev nD) : sProp 𝕄 :=
  iprop((∃ K, cellRecs m ρ K ∗ ghost c) ∗ cred (tallyAt (barCell c) () 7) ∗ credQ 0 c ∗ credQ 1 c ∗ levAts L lv)

/-- A scratch buffer, whatever it holds. -/
def buf (M : Memref sig .tc .vmem S8x32x128 .f32) (c : Dev nD) : sProp 𝕄 := iprop(∃ f, (M.view.loc (c : Thread nD τ)) ↦[M.view.set]{fullShare} f)
def bufs (c : Dev nD) : sProp 𝕄 := iprop(buf (stM 0) c ∗ buf (rcM 0) c ∗ buf (stM 1) c ∗ buf (rcM 1) c)

/-- The counters of exchange `q` at zero. -/
def zeroQ (q : Fin 2) (c : Dev nD) : sProp 𝕄 :=
  iprop((bigSep Finset.univ fun o : Fin 7 => semVal (xCell c (q, 0, o)) 0) ∗ (bigSep Finset.univ fun o : Fin 7 => semVal (xCell c (q, 1, o)) 0))

def Φ₀ (c : Dev nD) : sProp 𝕄 := iprop(start m ρ c ∗ bufs c)
def Φ₁ (c : Dev nD) : sProp 𝕄 := iprop(bufs c ∗ zeroQ 0 c ∗ zeroQ 1 c ∗ semVal (barCell c) 0)

/-! ## The pipeline's proof data -/

def t₀ : Fin cfg0.N := ⟨0, by decide +kernel⟩
theorem fin_N (t : Fin cfg0.N) : t = t₀ := by
  obtain ⟨t, ht⟩ := t
  have : cfg0.N = 1 := by decide +kernel
  exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outV m ρ c
  Φ t := match t with
    | ⟨0, _⟩ => Φ₀ m ρ c
    | ⟨_ + 1, _⟩ => Φ₁ c
  q _ := fullShare
  owed t := match t with
    | ⟨0, _⟩ => oweB c os₀
    | ⟨_ + 1, _⟩ => 0

abbrev stg (c : Dev nD) (b : Ref sig .tc) (x : b.ty.Contents (Elt F)) : sProp 𝕄 :=
  iprop(∃ f : Buf (Elt F) (((c : Dev nD) : Thread nD τ).loc b), ⌜f = x⌝ ∗ (((c : Thread nD τ).loc b) ↦{fullShare} f))

def bodyPre (K : Dev nD × Option X → ℕ) (c : Dev nD) : sProp 𝕄 :=
  iprop((cellRecs m ρ K ∗ ghost c ∗ cred (tallyAt (barCell c) () 7) ∗ credQ 0 c ∗ credQ 1 c ∗ levAts L lv ∗ bufs c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outV m ρ c))

/-! ## Reads and writes of whole buffers -/

theorem hz2 : (![0, 0] : Fin 2 → Nat) = fun _ => 0 := funext fun a => by fin_cases a <;> rfl
theorem hz3 : (![0, 0, 0] : Fin 3 → Nat) = fun _ => 0 := funext fun a => by fin_cases a <;> rfl

theorem pay57_eq (v : Vec F S1x32x128 .f32) : k0_pay57 v = v := shapeCast_shapeCast v _ _
theorem pay94_eq (v : Vec F S1x32x128 .f32) : k0_pay94 v = v := shapeCast_shapeCast v _ _

/-- Each slot of a buffer is of the same credit. -/
theorem N_rc (q : Fin 2) {o : Fin 3 → Nat} {b : ∀ a, o a + S1x32x128.size a ≤ S8x32x128.size a}
    {t : ∀ a, (Rect.unit (s := S8x32x128) o S1x32x128.size b).stride a = 1} :
    (((rcM q).slice (Rect.unit (s := S8x32x128) o S1x32x128.size b) t).squeeze S32x128 squeezes_S1x32x128_S32x128).view.dmaCredit = N := by
  match q with
  | 0 => rfl
  | 1 => rfl
theorem N_st (q : Fin 2) {o : Fin 3 → Nat} {b : ∀ a, o a + S1x32x128.size a ≤ S8x32x128.size a}
    {t : ∀ a, (Rect.unit (s := S8x32x128) o S1x32x128.size b).stride a = 1} :
    (((stM q).slice (Rect.unit (s := S8x32x128) o S1x32x128.size b) t).squeeze S32x128 squeezes_S1x32x128_S32x128).view.dmaCredit = N := by
  match q with
  | 0 => rfl
  | 1 => rfl

/-- What is stored for exchange `q`. -/
def zq : Fin 2 → Dev nD → Vec F S8x32x128 .f32 := fun | 0 => z1 m ρ | 1 => z2 m ρ

/-- The stage's whole store. -/
theorem step_stage {α : Type} {Q : α → sProp 𝕄} {k : PUnit → Prog (TpuEff nD τ sig (Elt F) Λ₀ .tc) α} (q : Fin 2) (c : Dev nD)
    {A : Memref sig .tc .vmem S8x32x128 .f32} (hA : A = stM q) {b : ∀ a, (![0, 0, 0] : Fin 3 → Nat) a + S8x32x128.size a ≤ S8x32x128.size a}
    {w : Vec F S8x32x128 .f32} (hw : w = zq m ρ q c)
    {hl : A.view.LoadsAt (Rect.unit (s := S8x32x128) ![0, 0, 0] S8x32x128.size b).toLoadRect}
    {hx : (A.access (Rect.unit (s := S8x32x128) ![0, 0, 0] S8x32x128.size b)).Stores Finset.univ}
    {hm : Finset.univ = Finset.univ ∨ ∀ a, (Rect.unit (s := S8x32x128) ![0, 0, 0] S8x32x128.size b).stride a = 1} :
    iprop(∃ f, (stM q).view.loc (c : Thread nD τ) ↦[(stM q).view.set]{fullShare} f)
      ⊢ iprop((((stM q).view.loc (c : Thread nD τ) ↦[(stM q).view.set]{fullShare} stC m ρ q c)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.load A (Rect.unit (s := S8x32x128) ![0, 0, 0] S8x32x128.size b).toLoadRect hl) fun _ =>
            .op (.store A (Rect.unit (s := S8x32x128) ![0, 0, 0] S8x32x128.size b) w Finset.univ hx hm) k) Q) := by
  subst hA hw
  iintro ⟨%f, H⟩ Hk
  iapply (wp_load 𝒱₀ (c : Thread nD τ) none Set.univ (m := stM q) (View.setOn_subset_set _ _)) $$ H; iintro H
  iapply (wp_store 𝒱₀ (c : Thread nD τ) none Set.univ (m := stM q) (r := Rect.unit (s := S8x32x128) ![0, 0, 0] S8x32x128.size b) (Mk := Finset.univ)
    (S := (stM q).view.set) (f := f) (View.set_slice_subset _ _)) $$ H; iintro H
  iapply Hk
  match q with
  | 0 =>
    iapply (Entails.of_eq (congrArg (fun g => ((stM 0).view.loc (c : Thread nD τ) ↦[(stM 0).view.set]{fullShare} g : sProp 𝕄))
      (Memref.write_access_unit_zero_univ (Elt F) cc0_scratch0 hz3 b f (z1 m ρ c))))
    iexact H
  | 1 =>
    iapply (Entails.of_eq (congrArg (fun g => ((stM 1).view.loc (c : Thread nD τ) ↦[(stM 1).view.set]{fullShare} g : sProp 𝕄))
      (Memref.write_access_unit_zero_univ (Elt F) cc0_scratch2 hz3 b f (z2 m ρ c))))
    iexact H

/-- The landing buffer's whole load. -/
theorem step_landed {α : Type} {Q : α → sProp 𝕄} (q : Fin 2) (c : Dev nD)
    {B : Memref sig .tc .vmem S8x32x128 .f32} (hB : B = rcM q) {b : ∀ a, (![0, 0, 0] : Fin 3 → Nat) a + S8x32x128.size a ≤ S8x32x128.size a}
    {k : Vec F S8x32x128 .f32 → Prog (TpuEff nD τ sig (Elt F) Λ₀ .tc) α}
    {hl : B.view.LoadsAt (Rect.unit (s := S8x32x128) ![0, 0, 0] S8x32x128.size b).toLoadRect} :
    iprop((rcM q).view.loc (c : Thread nD τ) ↦[(rcM q).view.set]{fullShare} rcC m ρ q c)
      ⊢ iprop((((rcM q).view.loc (c : Thread nD τ) ↦[(rcM q).view.set]{fullShare} rcC m ρ q c)
          -∗ wp frame (wpE (defs₀ (F := F)) 𝒱₀ (c : Thread nD τ) none) Set.univ (k (exch (zq m ρ q) c)) Q)
        -∗ wp frame (wpE (defs₀ (F := F)) 𝒱₀ (c : Thread nD τ) none) Set.univ
          (.op (.load B (Rect.unit (s := S8x32x128) ![0, 0, 0] S8x32x128.size b).toLoadRect hl) k) Q) := by
  subst hB
  have h : (rcM q).view.readAt (Elt F) (Rect.unit (s := S8x32x128) ![0, 0, 0] S8x32x128.size b).toLoadRect (rcC m ρ q c) = exch (zq m ρ q) c := by
    match q with
    | 0 => exact Memref.readAt_unit_zero (Elt F) cc0_scratch1 hz3 b _
    | 1 => exact Memref.readAt_unit_zero (Elt F) cc0_scratch3 hz3 b _
  have := wp_load (Q := Q) (defs := defs₀ (F := F)) (Γ := PendingWaitsCtx.empty) 𝒱₀ (c : Thread nD τ) none Set.univ (m := rcM q) (hl := hl) (k := k) (q := fullShare) (f := rcC m ρ q c)
    (View.setOn_subset_set (rcM q).view _)
  rw [h] at this
  exact this

/-- The block's whole load. -/
theorem step_loadx {α : Type} {Q : α → sProp 𝕄} (c : Dev nD) {b : ∀ a, (![0, 0] : Fin 2 → Nat) a + S256x128.size a ≤ S256x128.size a}
    {k : Vec F S256x128 .f32 → Prog (TpuEff nD τ sig (Elt F) Λ₀ .tc) α} {f : Vec F S256x128 .f32}
    {hl : (xM : Memref sig .tc .vmem S256x128 .f32).view.LoadsAt (Rect.unit (s := S256x128) ![0, 0] S256x128.size b).toLoadRect} :
    iprop(((c : Thread nD τ).loc cc0_stg0_0) ↦{fullShare} f)
      ⊢ iprop(((((c : Thread nD τ).loc cc0_stg0_0) ↦{fullShare} f)
          -∗ wp frame (wpE (defs₀ (F := F)) 𝒱₀ (c : Thread nD τ) none) Set.univ (k f) Q)
        -∗ wp frame (wpE (defs₀ (F := F)) 𝒱₀ (c : Thread nD τ) none) Set.univ
          (.op (.load xM (Rect.unit (s := S256x128) ![0, 0] S256x128.size b).toLoadRect hl) k) Q) := by
  have := wp_load (Q := Q) (defs := defs₀ (F := F)) (Γ := PendingWaitsCtx.empty) 𝒱₀ (c : Thread nD τ) none Set.univ (m := xM) (hl := hl) (k := k)
    (S := Finset.univ) (q := fullShare) (f := f) (Finset.subset_univ _)
  rw [show (xM : Memref sig .tc .vmem S256x128 .f32).view.readAt (Elt F) (Rect.unit (s := S256x128) ![0, 0] S256x128.size b).toLoadRect f = f from
    Memref.readAt_unit_zero (Elt F) cc0_stg0_0 hz2 b f] at this
  exact this

/-- The result's whole store. -/
theorem step_out {α : Type} {Q : α → sProp 𝕄} {k : PUnit → Prog (TpuEff nD τ sig (Elt F) Λ₀ .tc) α} (c : Dev nD)
    {b : ∀ a, (![0, 0] : Fin 2 → Nat) a + S256x128.size a ≤ S256x128.size a} {f w : Vec F S256x128 .f32} (v : Vec F S256x128 .f32) (hw : w = v)
    {hl : (oM : Memref sig .tc .vmem S256x128 .f32).view.LoadsAt (Rect.unit (s := S256x128) ![0, 0] S256x128.size b).toLoadRect}
    {hx : ((oM : Memref sig .tc .vmem S256x128 .f32).access (Rect.unit (s := S256x128) ![0, 0] S256x128.size b)).Stores Finset.univ}
    {hm : Finset.univ = Finset.univ ∨ ∀ a, (Rect.unit (s := S256x128) ![0, 0] S256x128.size b).stride a = 1} :
    iprop(((c : Thread nD τ).loc cc0_stg1_0) ↦{fullShare} f)
      ⊢ iprop(((((c : Thread nD τ).loc cc0_stg1_0) ↦{fullShare} v)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.load oM (Rect.unit (s := S256x128) ![0, 0] S256x128.size b).toLoadRect hl) fun _ =>
            .op (.store oM (Rect.unit (s := S256x128) ![0, 0] S256x128.size b) w Finset.univ hx hm) k) Q) := by
  subst hw
  iintro H Hk
  iapply (wp_load 𝒱₀ (c : Thread nD τ) none Set.univ (m := oM) (Finset.subset_univ _)) $$ H; iintro H
  iapply (wp_store 𝒱₀ (c : Thread nD τ) none Set.univ (m := oM) (r := Rect.unit (s := S256x128) ![0, 0] S256x128.size b) (Mk := Finset.univ)
    (S := Finset.univ) (f := f) (Finset.subset_univ _)) $$ H; iintro H
  iapply Hk
  iapply (Entails.of_eq (congrArg (fun g => (((c : Thread nD τ).loc cc0_stg1_0) ↦{fullShare} g : sProp 𝕄))
    (Memref.write_access_unit_zero_univ (Elt F) cc0_stg1_0 hz2 b f w)))
  iexact H

end Cert.Exchange

end
-- ==== Proof.Exec.lean ====
/-
# The body, run

Part by part, one step per effect in program order.
-/
module

public import proofs.«01_k».proof.Proof.Body

@[expose] public section

set_option maxRecDepth 65536

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option X → ℕ)

theorem fetch_0 (t : Fin cfg0.N) : (cfg0.win (0 : Fin 2)).fetch t = true := by rw [fin_N t]; rfl

set_option maxHeartbeats 4000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  rw [cc0_body_eq_skeleton]; unfold cc0_body_skel
  unfold bodyPre ghost ghostQ bufs buf
  iintro ⟨⟨⟨#HR, ⟨HatB, HtB, ⟨HatS0, HatR0, HtS0, HtR0⟩, ⟨HatS1, HatR1, HtS1, HtR1⟩⟩, HcB, HcR0, HcR1, #Hlev, ⟨HA0, ⟨%f0, HB0⟩, HA1, ⟨%f1, HB1⟩⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = oweB c os₀ from rfl]
  ihave #HRec : records m ρ K $$ []
  · unfold records cellRecs
    icases HR with ⟨#H1, #H2⟩
    isplitr; · iexact H1
    isplitr; · iexact H2
    iexact Hlev
  ihave HB0 := (Entails.of_eq (slots_split (rcM 0) c f0)) $$ HB0
  icases HB0 with ⟨Hown0, HB0⟩
  ihave HB1 := (Entails.of_eq (slots_split (rcM 1) c f1)) $$ HB1
  icases HB1 with ⟨Hown1, HB1⟩
  ihave HA := (stA_intro c f0 f1) $$ [HO HtB HB0 HB1]
  · isplitl [HO]; · unfold debt; iexists W; iexact HO
    isplitl [HtB]; · iexact HtB
    isplitl [HB0] <;> iassumption
  -- the signals
  rw [k0_part1_eq_skeleton]; unfold k0_part1_skel
  simp only [semSignalWord, semWaitWord, Prog.lift, Prog.bind_op, Prog.bind_ret, Prog.pure_eq_ret, wp_deviceId]
  iapply (step_signal m ρ K c _ 0 [1, 2, 3, 4, 5, 6] (Fin.ext (dev_word 0 c)) (by decide)) $$ [HA]
  · isplitr; · iexact HRec
    iexact HA
  iintro HA
  iapply (step_signal m ρ K c _ 1 [2, 3, 4, 5, 6] (Fin.ext (dev_word 1 c)) (by decide)) $$ [HA]
  · isplitr; · iexact HRec
    iexact HA
  iintro HA
  iapply (step_signal m ρ K c _ 2 [3, 4, 5, 6] (Fin.ext (dev_word 2 c)) (by decide)) $$ [HA]
  · isplitr; · iexact HRec
    iexact HA
  iintro HA
  rw [k0_part2_eq_skeleton]; unfold k0_part2_skel
  simp only [semSignalWord, semWaitWord, Prog.lift, Prog.bind_op, Prog.bind_ret, Prog.pure_eq_ret]
  iapply (step_signal m ρ K c _ 3 [4, 5, 6] (Fin.ext (dev_word 3 c)) (by decide)) $$ [HA]
  · isplitr; · iexact HRec
    iexact HA
  iintro HA
  iapply (step_signal m ρ K c _ 4 [5, 6] (Fin.ext (dev_word 4 c)) (by decide)) $$ [HA]
  · isplitr; · iexact HRec
    iexact HA
  iintro HA
  iapply (step_signal m ρ K c _ 5 [6] (Fin.ext (dev_word 5 c)) (by decide)) $$ [HA]
  · isplitr; · iexact HRec
    iexact HA
  iintro HA
  iapply (step_signal m ρ K c _ 6 [] (Fin.ext (dev_word 6 c)) (by decide)) $$ [HA]
  · isplitr; · iexact HRec
    iexact HA
  iintro HA
  -- the barrier
  unfold stA
  icases HA with ⟨HO, -⟩
  iapply (step_barrier m ρ K c (by decide)) $$ [HO HcB HatB]
  · isplitr; · iexact HRec
    isplitl [HO]; · iexact HO
    isplitl [HcB] <;> iassumption
  iintro ⟨HO, HzB, HL⟩
  ihave HL := (Entails.of_eq (land_split (F := F) c)) $$ HL
  icases HL with ⟨HD0, HD1⟩
  -- the local sort
  iapply (step_loadx c) $$ Hx; iintro Hx
  rw [k0_part3_eq_skeleton]; unfold k0_part3_skel
  simp only [semSignalWord, semWaitWord, Prog.lift, Prog.bind_op, Prog.bind_ret, Prog.pure_eq_ret]
  rw [k0_part4_eq_skeleton]; unfold k0_part4_skel
  simp only [semSignalWord, semWaitWord, Prog.lift, Prog.bind_op, Prog.bind_ret, Prog.pure_eq_ret]
  rw [k0_part5_eq_skeleton]; unfold k0_part5_skel
  simp only [semSignalWord, semWaitWord, Prog.lift, Prog.bind_op, Prog.bind_ret, Prog.pure_eq_ret]
  rw [k0_part6_eq_skeleton]; unfold k0_part6_skel
  simp only [semSignalWord, semWaitWord, Prog.lift, Prog.bind_op, Prog.bind_ret, Prog.pure_eq_ret]
  rw [k0_part7_eq_skeleton]; unfold k0_part7_skel
  simp only [semSignalWord, semWaitWord, Prog.lift, Prog.bind_op, Prog.bind_ret, Prog.pure_eq_ret]
  rw [k0_part8_eq_skeleton]; unfold k0_part8_skel
  simp only [semSignalWord, semWaitWord, Prog.lift, Prog.bind_op, Prog.bind_ret, Prog.pure_eq_ret]
  rw [k0_part9_eq_skeleton]; unfold k0_part9_skel
  simp only [semSignalWord, semWaitWord, Prog.lift, Prog.bind_op, Prog.bind_ret, Prog.pure_eq_ret]
  rw [k0_part10_eq_skeleton]; unfold k0_part10_skel
  simp only [semSignalWord, semWaitWord, Prog.lift, Prog.bind_op, Prog.bind_ret, Prog.pure_eq_ret]
  rw [k0_part11_eq_skeleton]; unfold k0_part11_skel
  simp only [semSignalWord, semWaitWord, Prog.lift, Prog.bind_op, Prog.bind_ret, Prog.pure_eq_ret]
  rw [k0_part12_eq_skeleton]; unfold k0_part12_skel
  simp only [semSignalWord, semWaitWord, Prog.lift, Prog.bind_op, Prog.bind_ret, Prog.pure_eq_ret]
  rw [k0_part13_eq_skeleton]; unfold k0_part13_skel
  simp only [semSignalWord, semWaitWord, Prog.lift, Prog.bind_op, Prog.bind_ret, Prog.pure_eq_ret]
  rw [k0_part14_eq_skeleton]; unfold k0_part14_skel
  simp only [semSignalWord, semWaitWord, Prog.lift, Prog.bind_op, Prog.bind_ret, Prog.pure_eq_ret]
  rw [k0_part15_eq_skeleton]; unfold k0_part15_skel
  simp only [semSignalWord, semWaitWord, Prog.lift, Prog.bind_op, Prog.bind_ret, Prog.pure_eq_ret]
  iapply (step_stage m ρ 0 c rfl rfl) $$ HA0; iintro Hs0
  iapply (step_own m ρ 0 c rfl rfl (off1_eq c) pay57_eq) $$ [Hs0 Hown0]
  · isplitl [Hs0]; · iexact Hs0
    iexists f0; iexact Hown0
  iintro ⟨Hs0, Hown0⟩
  -- the transfers
  ihave Hs0 := (Entails.of_eq (slots_split (stM 0) c (stC m ρ 0 c))) $$ Hs0
  icases Hs0 with ⟨Hst0, Hs0⟩
  ihave HS := (stS_intro m ρ 0 c) $$ [HO Hs0 HD0 HtS0 HtR0]
  · isplitl [HO]; · iexact HO
    isplitl [Hs0]; · iexact Hs0
    isplitl [HD0]; · iexact HD0
    isplitl [HtS0] <;> iassumption
  rw [k0_part16_eq_skeleton]; unfold k0_part16_skel
  simp only [semSignalWord, semWaitWord, Prog.lift, Prog.bind_op, Prog.bind_ret, Prog.pure_eq_ret]
  iapply (step_send m ρ K 0 c _ 0 [1, 2, 3, 4, 5, 6] [] (Fin.ext (dev_word 0 c)) (off2_eq c) (off3_eq 0 c) rfl rfl rfl rfl) $$ [HS]
  · isplitr; · iexact HRec
    iexact HS
  iintro HS
  iapply (step_send m ρ K 0 c _ 1 [2, 3, 4, 5, 6] [0] (Fin.ext (dev_word 1 c)) (off2_eq c) (off3_eq 1 c) rfl rfl rfl rfl) $$ [HS]
  · isplitr; · iexact HRec
    iexact HS
  iintro HS
  iapply (step_send m ρ K 0 c _ 2 [3, 4, 5, 6] [1, 0] (Fin.ext (dev_word 2 c)) (off2_eq c) (off3_eq 2 c) rfl rfl rfl rfl) $$ [HS]
  · isplitr; · iexact HRec
    iexact HS
  iintro HS
  rw [k0_part17_eq_skeleton]; unfold k0_part17_skel
  simp only [semSignalWord, semWaitWord, Prog.lift, Prog.bind_op, Prog.bind_ret, Prog.pure_eq_ret]
  iapply (step_send m ρ K 0 c _ 3 [4, 5, 6] [2, 1, 0] (Fin.ext (dev_word 3 c)) (off2_eq c) (off3_eq 3 c) rfl rfl rfl rfl) $$ [HS]
  · isplitr; · iexact HRec
    iexact HS
  iintro HS
  iapply (step_send m ρ K 0 c _ 4 [5, 6] [3, 2, 1, 0] (Fin.ext (dev_word 4 c)) (off2_eq c) (off3_eq 4 c) rfl rfl rfl rfl) $$ [HS]
  · isplitr; · iexact HRec
    iexact HS
  iintro HS
  iapply (step_send m ρ K 0 c _ 5 [6] [4, 3, 2, 1, 0] (Fin.ext (dev_word 5 c)) (off2_eq c) (off3_eq 5 c) rfl rfl rfl rfl) $$ [HS]
  · isplitr; · iexact HRec
    iexact HS
  iintro HS
  rw [k0_part18_eq_skeleton]; unfold k0_part18_skel
  simp only [semSignalWord, semWaitWord, Prog.lift, Prog.bind_op, Prog.bind_ret, Prog.pure_eq_ret]
  iapply (step_send m ρ K 0 c _ 6 [] [5, 4, 3, 2, 1, 0] (Fin.ext (dev_word 6 c)) (off2_eq c) (off3_eq 6 c) rfl rfl rfl rfl) $$ [HS]
  · isplitr; · iexact HRec
    iexact HS
  iintro HS
  ihave HS := (stS_done m ρ 0 c) $$ HS
  icases HS with ⟨HO, HcS0⟩
  -- the landings
  ihave HW := (stX_intro m ρ (oweS c 1 os₀) 0 1 c) $$ [HO HcR0 HatR0]
  · isplitl [HO]; · iexact HO
    isplitl [HcR0]; · unfold credQ; iexact HcR0
    iexact HatR0
  iapply (step_wait m ρ K 0 1 c 0 [1, 2, 3, 4, 5, 6] [] (above_S1 c 2 (by decide) os₀) rfl (N_rc 0)) $$ [HW]
  · isplitr; · iexact HRec
    iexact HW
  iintro HW
  iapply (step_wait m ρ K 0 1 c 1 [2, 3, 4, 5, 6] [0] (above_S1 c 2 (by decide) os₀) rfl (N_rc 0)) $$ [HW]
  · isplitr; · iexact HRec
    iexact HW
  iintro HW
  rw [k0_part19_eq_skeleton]; unfold k0_part19_skel
  simp only [semSignalWord, semWaitWord, Prog.lift, Prog.bind_op, Prog.bind_ret, Prog.pure_eq_ret]
  iapply (step_wait m ρ K 0 1 c 2 [3, 4, 5, 6] [1, 0] (above_S1 c 2 (by decide) os₀) rfl (N_rc 0)) $$ [HW]
  · isplitr; · iexact HRec
    iexact HW
  iintro HW
  iapply (step_wait m ρ K 0 1 c 3 [4, 5, 6] [2, 1, 0] (above_S1 c 2 (by decide) os₀) rfl (N_rc 0)) $$ [HW]
  · isplitr; · iexact HRec
    iexact HW
  iintro HW
  iapply (step_wait m ρ K 0 1 c 4 [5, 6] [3, 2, 1, 0] (above_S1 c 2 (by decide) os₀) rfl (N_rc 0)) $$ [HW]
  · isplitr; · iexact HRec
    iexact HW
  iintro HW
  iapply (step_wait m ρ K 0 1 c 5 [6] [4, 3, 2, 1, 0] (above_S1 c 2 (by decide) os₀) rfl (N_rc 0)) $$ [HW]
  · isplitr; · iexact HRec
    iexact HW
  iintro HW
  rw [k0_part20_eq_skeleton]; unfold k0_part20_skel
  simp only [semSignalWord, semWaitWord, Prog.lift, Prog.bind_op, Prog.bind_ret, Prog.pure_eq_ret]
  iapply (step_wait m ρ K 0 1 c 6 [] [5, 4, 3, 2, 1, 0] (above_S1 c 2 (by decide) os₀) rfl (N_rc 0)) $$ [HW]
  · isplitr; · iexact HRec
    iexact HW
  iintro HW
  ihave HW := (stX_done m ρ (oweS c 1 os₀) 0 1 c) $$ HW
  icases HW with ⟨HO, HzR0, HB0⟩
  ihave HB0 := (Entails.of_eq (slots_split (rcM 0) c (rcC m ρ 0 c)).symm) $$ [Hown0 HB0]
  · isplitl [Hown0]; · iexact Hown0
    iexact HB0
  iapply (step_landed m ρ 0 c rfl) $$ HB0; iintro HB0
  -- the merge
  rw [k0_part21_eq_skeleton]; unfold k0_part21_skel
  simp only [semSignalWord, semWaitWord, Prog.lift, Prog.bind_op, Prog.bind_ret, Prog.pure_eq_ret]
  rw [k0_part22_eq_skeleton]; unfold k0_part22_skel
  simp only [semSignalWord, semWaitWord, Prog.lift, Prog.bind_op, Prog.bind_ret, Prog.pure_eq_ret]
  rw [k0_part23_eq_skeleton]; unfold k0_part23_skel
  simp only [semSignalWord, semWaitWord, Prog.lift, Prog.bind_op, Prog.bind_ret, Prog.pure_eq_ret]
  rw [k0_part24_eq_skeleton]; unfold k0_part24_skel
  simp only [semSignalWord, semWaitWord, Prog.lift, Prog.bind_op, Prog.bind_ret, Prog.pure_eq_ret]
  rw [k0_part25_eq_skeleton]; unfold k0_part25_skel
  simp only [semSignalWord, semWaitWord, Prog.lift, Prog.bind_op, Prog.bind_ret, Prog.pure_eq_ret]
  rw [k0_part26_eq_skeleton]; unfold k0_part26_skel
  simp only [semSignalWord, semWaitWord, Prog.lift, Prog.bind_op, Prog.bind_ret, Prog.pure_eq_ret]
  rw [k0_part27_eq_skeleton]; unfold k0_part27_skel
  simp only [semSignalWord, semWaitWord, Prog.lift, Prog.bind_op, Prog.bind_ret, Prog.pure_eq_ret]
  rw [k0_part28_eq_skeleton]; unfold k0_part28_skel
  simp only [semSignalWord, semWaitWord, Prog.lift, Prog.bind_op, Prog.bind_ret, Prog.pure_eq_ret]
  rw [k0_part29_eq_skeleton]; unfold k0_part29_skel
  simp only [semSignalWord, semWaitWord, Prog.lift, Prog.bind_op, Prog.bind_ret, Prog.pure_eq_ret]
  rw [k0_part30_eq_skeleton]; unfold k0_part30_skel
  simp only [semSignalWord, semWaitWord, Prog.lift, Prog.bind_op, Prog.bind_ret, Prog.pure_eq_ret]
  iapply (step_stage m ρ 1 c rfl rfl) $$ HA1; iintro Hs1
  iapply (step_own m ρ 1 c rfl rfl (off1_eq c) pay94_eq) $$ [Hs1 Hown1]
  · isplitl [Hs1]; · iexact Hs1
    iexists f1; iexact Hown1
  iintro ⟨Hs1, Hown1⟩
  -- the transfers
  ihave Hs1 := (Entails.of_eq (slots_split (stM 1) c (stC m ρ 1 c))) $$ Hs1
  icases Hs1 with ⟨Hst1, Hs1⟩
  ihave HS := (stS_intro m ρ 1 c) $$ [HO Hs1 HD1 HtS1 HtR1]
  · isplitl [HO]; · iexact HO
    isplitl [Hs1]; · iexact Hs1
    isplitl [HD1]; · iexact HD1
    isplitl [HtS1] <;> iassumption
  rw [k0_part31_eq_skeleton]; unfold k0_part31_skel
  simp only [semSignalWord, semWaitWord, Prog.lift, Prog.bind_op, Prog.bind_ret, Prog.pure_eq_ret]
  iapply (step_send m ρ K 1 c _ 0 [1, 2, 3, 4, 5, 6] [] (Fin.ext (dev_word 0 c)) (off2_eq c) (off3_eq 0 c) rfl rfl rfl rfl) $$ [HS]
  · isplitr; · iexact HRec
    iexact HS
  iintro HS
  iapply (step_send m ρ K 1 c _ 1 [2, 3, 4, 5, 6] [0] (Fin.ext (dev_word 1 c)) (off2_eq c) (off3_eq 1 c) rfl rfl rfl rfl) $$ [HS]
  · isplitr; · iexact HRec
    iexact HS
  iintro HS
  iapply (step_send m ρ K 1 c _ 2 [3, 4, 5, 6] [1, 0] (Fin.ext (dev_word 2 c)) (off2_eq c) (off3_eq 2 c) rfl rfl rfl rfl) $$ [HS]
  · isplitr; · iexact HRec
    iexact HS
  iintro HS
  rw [k0_part32_eq_skeleton]; unfold k0_part32_skel
  simp only [semSignalWord, semWaitWord, Prog.lift, Prog.bind_op, Prog.bind_ret, Prog.pure_eq_ret]
  iapply (step_send m ρ K 1 c _ 3 [4, 5, 6] [2, 1, 0] (Fin.ext (dev_word 3 c)) (off2_eq c) (off3_eq 3 c) rfl rfl rfl rfl) $$ [HS]
  · isplitr; · iexact HRec
    iexact HS
  iintro HS
  iapply (step_send m ρ K 1 c _ 4 [5, 6] [3, 2, 1, 0] (Fin.ext (dev_word 4 c)) (off2_eq c) (off3_eq 4 c) rfl rfl rfl rfl) $$ [HS]
  · isplitr; · iexact HRec
    iexact HS
  iintro HS
  iapply (step_send m ρ K 1 c _ 5 [6] [4, 3, 2, 1, 0] (Fin.ext (dev_word 5 c)) (off2_eq c) (off3_eq 5 c) rfl rfl rfl rfl) $$ [HS]
  · isplitr; · iexact HRec
    iexact HS
  iintro HS
  rw [k0_part33_eq_skeleton]; unfold k0_part33_skel
  simp only [semSignalWord, semWaitWord, Prog.lift, Prog.bind_op, Prog.bind_ret, Prog.pure_eq_ret]
  iapply (step_send m ρ K 1 c _ 6 [] [5, 4, 3, 2, 1, 0] (Fin.ext (dev_word 6 c)) (off2_eq c) (off3_eq 6 c) rfl rfl rfl rfl) $$ [HS]
  · isplitr; · iexact HRec
    iexact HS
  iintro HS
  ihave HS := (stS_done m ρ 1 c) $$ HS
  icases HS with ⟨HO, HcS1⟩
  -- the landings
  ihave HW := (stX_intro m ρ 0 1 1 c) $$ [HO HcR1 HatR1]
  · isplitl [HO]; · iexact HO
    isplitl [HcR1]; · unfold credQ; iexact HcR1
    iexact HatR1
  iapply (step_wait m ρ K 1 1 c 0 [1, 2, 3, 4, 5, 6] [] (above_zero _) rfl (N_rc 1)) $$ [HW]
  · isplitr; · iexact HRec
    iexact HW
  iintro HW
  iapply (step_wait m ρ K 1 1 c 1 [2, 3, 4, 5, 6] [0] (above_zero _) rfl (N_rc 1)) $$ [HW]
  · isplitr; · iexact HRec
    iexact HW
  iintro HW
  rw [k0_part34_eq_skeleton]; unfold k0_part34_skel
  simp only [semSignalWord, semWaitWord, Prog.lift, Prog.bind_op, Prog.bind_ret, Prog.pure_eq_ret]
  iapply (step_wait m ρ K 1 1 c 2 [3, 4, 5, 6] [1, 0] (above_zero _) rfl (N_rc 1)) $$ [HW]
  · isplitr; · iexact HRec
    iexact HW
  iintro HW
  iapply (step_wait m ρ K 1 1 c 3 [4, 5, 6] [2, 1, 0] (above_zero _) rfl (N_rc 1)) $$ [HW]
  · isplitr; · iexact HRec
    iexact HW
  iintro HW
  iapply (step_wait m ρ K 1 1 c 4 [5, 6] [3, 2, 1, 0] (above_zero _) rfl (N_rc 1)) $$ [HW]
  · isplitr; · iexact HRec
    iexact HW
  iintro HW
  iapply (step_wait m ρ K 1 1 c 5 [6] [4, 3, 2, 1, 0] (above_zero _) rfl (N_rc 1)) $$ [HW]
  · isplitr; · iexact HRec
    iexact HW
  iintro HW
  rw [k0_part35_eq_skeleton]; unfold k0_part35_skel
  simp only [semSignalWord, semWaitWord, Prog.lift, Prog.bind_op, Prog.bind_ret, Prog.pure_eq_ret]
  iapply (step_wait m ρ K 1 1 c 6 [] [5, 4, 3, 2, 1, 0] (above_zero _) rfl (N_rc 1)) $$ [HW]
  · isplitr; · iexact HRec
    iexact HW
  iintro HW
  ihave HW := (stX_done m ρ 0 1 1 c) $$ HW
  icases HW with ⟨HO, HzR1, HB1⟩
  ihave HB1 := (Entails.of_eq (slots_split (rcM 1) c (rcC m ρ 1 c)).symm) $$ [Hown1 HB1]
  · isplitl [Hown1]; · iexact Hown1
    iexact HB1
  iapply (step_landed m ρ 1 c rfl) $$ HB1; iintro HB1
  -- the result
  rw [k0_part36_eq_skeleton]; unfold k0_part36_skel
  simp only [semSignalWord, semWaitWord, Prog.lift, Prog.bind_op, Prog.bind_ret, Prog.pure_eq_ret]
  iapply (step_out c (outV m ρ c) rfl) $$ Hout; iintro Hout
  -- the stages back
  rw [k0_part37_eq_skeleton]; unfold k0_part37_skel
  simp only [semSignalWord, semWaitWord, Prog.lift, Prog.bind_op, Prog.bind_ret, Prog.pure_eq_ret]
  ihave HW := (stX_intro m ρ 0 0 0 c) $$ [HO HcS0 HatS0]
  · isplitl [HO]; · iexact HO
    isplitl [HcS0] <;> iassumption
  iapply (step_wait m ρ K 0 0 c 0 [1, 2, 3, 4, 5, 6] [] (above_zero _) rfl (N_st 0)) $$ [HW]
  · isplitr; · iexact HRec
    iexact HW
  iintro HW
  iapply (step_wait m ρ K 0 0 c 1 [2, 3, 4, 5, 6] [0] (above_zero _) rfl (N_st 0)) $$ [HW]
  · isplitr; · iexact HRec
    iexact HW
  iintro HW
  iapply (step_wait m ρ K 0 0 c 2 [3, 4, 5, 6] [1, 0] (above_zero _) rfl (N_st 0)) $$ [HW]
  · isplitr; · iexact HRec
    iexact HW
  iintro HW
  iapply (step_wait m ρ K 0 0 c 3 [4, 5, 6] [2, 1, 0] (above_zero _) rfl (N_st 0)) $$ [HW]
  · isplitr; · iexact HRec
    iexact HW
  iintro HW
  rw [k0_part38_eq_skeleton]; unfold k0_part38_skel
  simp only [semSignalWord, semWaitWord, Prog.lift, Prog.bind_op, Prog.bind_ret, Prog.pure_eq_ret]
  iapply (step_wait m ρ K 0 0 c 4 [5, 6] [3, 2, 1, 0] (above_zero _) rfl (N_st 0)) $$ [HW]
  · isplitr; · iexact HRec
    iexact HW
  iintro HW
  iapply (step_wait m ρ K 0 0 c 5 [6] [4, 3, 2, 1, 0] (above_zero _) rfl (N_st 0)) $$ [HW]
  · isplitr; · iexact HRec
    iexact HW
  iintro HW
  iapply (step_wait m ρ K 0 0 c 6 [] [5, 4, 3, 2, 1, 0] (above_zero _) rfl (N_st 0)) $$ [HW]
  · isplitr; · iexact HRec
    iexact HW
  iintro HW
  ihave HW := (stX_done m ρ 0 0 0 c) $$ HW
  icases HW with ⟨HO, HzS0, HA0⟩
  ihave HA0 := (Entails.of_eq (slots_split (stM 0) c (stC m ρ 0 c)).symm) $$ [Hst0 HA0]
  · isplitl [Hst0]; · iexact Hst0
    iexact HA0
  ihave HW := (stX_intro m ρ 0 1 0 c) $$ [HO HcS1 HatS1]
  · isplitl [HO]; · iexact HO
    isplitl [HcS1] <;> iassumption
  iapply (step_wait m ρ K 1 0 c 0 [1, 2, 3, 4, 5, 6] [] (above_zero _) rfl (N_st 1)) $$ [HW]
  · isplitr; · iexact HRec
    iexact HW
  iintro HW
  rw [k0_part39_eq_skeleton]; unfold k0_part39_skel
  simp only [semSignalWord, semWaitWord, Prog.lift, Prog.bind_op, Prog.bind_ret, Prog.pure_eq_ret]
  iapply (step_wait m ρ K 1 0 c 1 [2, 3, 4, 5, 6] [0] (above_zero _) rfl (N_st 1)) $$ [HW]
  · isplitr; · iexact HRec
    iexact HW
  iintro HW
  iapply (step_wait m ρ K 1 0 c 2 [3, 4, 5, 6] [1, 0] (above_zero _) rfl (N_st 1)) $$ [HW]
  · isplitr; · iexact HRec
    iexact HW
  iintro HW
  iapply (step_wait m ρ K 1 0 c 3 [4, 5, 6] [2, 1, 0] (above_zero _) rfl (N_st 1)) $$ [HW]
  · isplitr; · iexact HRec
    iexact HW
  iintro HW
  iapply (step_wait m ρ K 1 0 c 4 [5, 6] [3, 2, 1, 0] (above_zero _) rfl (N_st 1)) $$ [HW]
  · isplitr; · iexact HRec
    iexact HW
  iintro HW
  iapply (step_wait m ρ K 1 0 c 5 [6] [4, 3, 2, 1, 0] (above_zero _) rfl (N_st 1)) $$ [HW]
  · isplitr; · iexact HRec
    iexact HW
  iintro HW
  iapply (step_wait m ρ K 1 0 c 6 [] [5, 4, 3, 2, 1, 0] (above_zero _) rfl (N_st 1)) $$ [HW]
  · isplitr; · iexact HRec
    iexact HW
  iintro HW
  ihave HW := (stX_done m ρ 0 1 0 c) $$ HW
  icases HW with ⟨HO, HzS1, HA1⟩
  ihave HA1 := (Entails.of_eq (slots_split (stM 1) c (stC m ρ 1 c)).symm) $$ [Hst1 HA1]
  · isplitl [Hst1]; · iexact Hst1
    iexact HA1
  rw [wp_ret]; imodintro
  iapply Hk
  unfold bodyPost Φ₁ Dat.owesAt Pipeline.owesWithin zeroQ bufs buf
  rw [show (dats m ρ 0 c).owed t₀.succ = 0 from rfl]
  isplitl [HA0 HB0 HA1 HB1 HzS0 HzR0 HzS1 HzR1 HzB]
  · isplitl [HA0 HB0 HA1 HB1]
    · isplitl [HA0]; · iexists _; iexact HA0
      isplitl [HB0]; · iexists _; iexact HB0
      isplitl [HA1]; · iexists _; iexact HA1
      iexists _; iexact HB1
    isplitl [HzS0 HzR0]; · isplitl [HzS0] <;> iassumption
    isplitl [HzS1 HzR1]; · isplitl [HzS1] <;> iassumption
    iexact HzB
  isplitl [HO]
  · unfold debt; icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

end Cert.Exchange

end
-- ==== Proof.Launch.lean ====
/-
# The launch

The body as the pipeline's obligation, the ghost state dealt out over the eight devices, and the run of the whole program.
-/
module

public import proofs.«01_k».proof.Proof.Exec
public import proofs.«01_k».proof.Proof.Gen.KernelIdeal.Launch
public import Idealize.ShloMosaic.Lib.Pipeline.CollectiveSegs

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

omit [FloatOps F] in
theorem owns_stg (c : Dev nD) (b : Ref sig .tc) (x : b.ty.Contents (Elt F)) :
    (owns (Ix := Unit) (Name := ℕ) (U := UU) (Lvl := ℕ) (c : Thread nD τ) (Memref.whole b) fullShare x : sProp 𝕄) = stg c b x := by
  unfold owns; simp only [Memref.view_whole, View.read_whole, View.set_whole]

def obligPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

theorem body_oblig (c : Dev nD) : BodyObligation (dats (F := F) m ρ 0 c) (defs₀ (F := F)) 𝒱₀ () Set.univ := fun t => by
  rw [fin_N t]
  rw [bigSep_W0, bigSep_W0]
  simp only [owns_stg]
  show obligPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7) (fun _ => bodyPost m ρ c)
  unfold obligPre Φ₀ start
  iintro ⟨⟨⟨⟨%K, Hr, Hg⟩, H1, H2, H3, Hl⟩, Hb⟩, Ho, Hx, Hout⟩
  iapply (sound_body m ρ K c fun _ => bodyPost m ρ c)
  unfold bodyPre
  isplitr []
  · isplitl [Hr Hg H1 H2 H3 Hl Hb]
    · isplitl [Hr]; · iexact Hr
      isplitl [Hg]; · iexact Hg
      isplitl [H1]; · iexact H1
      isplitl [H2]; · iexact H2
      isplitl [H3]; · iexact H3
      isplitl [Hl]; · iexact Hl
      iexact Hb
    isplitl [Ho]; · iexact Ho
    isplitl [Hx] <;> iassumption
  · iintro H; iexact H

/-! ## Splitting over the cells of a device -/

omit [FloatOps F] in
theorem bigSep_opt (Φ : Option X → sProp 𝕄) : bigSep Finset.univ Φ = iprop(Φ none ∗ bigSep Finset.univ fun x : X => Φ (some x)) := by
  have h : (Finset.univ : Finset (Option X)).erase none = Finset.univ.map Function.Embedding.some := by
    ext k
    cases k with
    | none => simp
    | some x => simp
  rw [bigSep_univ_at Φ none, h, bigSep_map]; rfl

omit [FloatOps F] in
theorem bigSep_two (Φ : Fin 2 → sProp 𝕄) : bigSep Finset.univ Φ = iprop(Φ 0 ∗ Φ 1) := bigSep_univ_eq_bigSepL [0, 1] (by decide) (by decide) Φ

omit [FloatOps F] in
theorem bigSep_X (Φ : X → sProp 𝕄) : bigSep Finset.univ Φ
    = iprop(((bigSep Finset.univ fun o : Fin 7 => Φ (0, 0, o)) ∗ bigSep Finset.univ fun o : Fin 7 => Φ (0, 1, o))
      ∗ ((bigSep Finset.univ fun o : Fin 7 => Φ (1, 0, o)) ∗ bigSep Finset.univ fun o : Fin 7 => Φ (1, 1, o))) := by
  rw [bigSep_univ_prod, bigSep_two, bigSep_univ_prod, bigSep_two, bigSep_univ_prod, bigSep_two]

omit [FloatOps F] in
/-- A family over devices and peers may be counted from the other end. -/
theorem bigSep_deal (Φ : Dev nD → Fin 7 → sProp 𝕄) :
    (bigSep Finset.univ fun c : Dev nD => bigSep Finset.univ fun o : Fin 7 => Φ c o)
      = bigSep Finset.univ fun c : Dev nD => bigSep Finset.univ fun o : Fin 7 => Φ (pe o c) o := by
  have h (Ψ : Dev nD → Fin 7 → sProp 𝕄) : (bigSep Finset.univ fun c : Dev nD => bigSep Finset.univ fun o : Fin 7 => Ψ c o)
      = bigSep Finset.univ fun o : Fin 7 => bigSep Finset.univ fun c : Dev nD => Ψ c o := by
    rw [← bigSep_univ_prod fun p : Dev nD × Fin 7 => Ψ p.1 p.2, ← bigSep_univ_prod fun p : Fin 7 × Dev nD => Ψ p.2 p.1]
    exact bigSep_univ_equiv (Equiv.prodComm (Fin 7) (Dev nD)) fun p => Ψ p.1 p.2
  rw [h, h]
  exact bigSep_congr fun o _ => bigSep_univ_equiv (peEquiv o) fun c => Φ c o

/-! ## The ghost state at launch -/

theorem ownSemFacts : Pipeline.OwnSemFacts cfg0.spec osem where
  isScoped k := by revert k; decide +kernel
  inj a b h := dq_inj (SemLoc.dma.inj h)
  disj := by decide +kernel

theorem share_eq (c : Dev nD) (w : Fin cfg0.W) : (dats m ρ 0 c).share w = fullShare := by unfold Dat.share; split <;> rfl

def allCells : Finset (GSem nD τ sig) := Finset.univ.map ⟨kcell, kcell_inj⟩

/-- Seven tokens are minted for each cell; those of duties that the cell hasn't got are dropped. -/
abbrev tokOf (p : (Dev nD × Option X) × Fin 7) : GSem nD τ sig × ℕ × Fin 7 := (kcell p.1, 0, p.2)
theorem tokOf_inj : Function.Injective (tokOf : (Dev nD × Option X) × Fin 7 → GSem nD τ sig × ℕ × Fin 7) := by
  rintro ⟨a, o⟩ ⟨b, o'⟩ h
  have h1 : kcell a = kcell b := congrArg (fun x : GSem nD τ sig × ℕ × Fin 7 => x.1) h
  have h2 : o = o' := congrArg (fun x : GSem nD τ sig × ℕ × Fin 7 => x.2.2) h
  rw [kcell_inj h1, h2]
def allToks : Finset (GSem nD τ sig × ℕ × Fin 7) := Finset.univ.map ⟨tokOf, tokOf_inj⟩

def u₀ : UU := (initOf (Pipeline.cells cfgs cellOf_inj) (Pipeline.launchToks cfgs cellOf_inj), initOf allCells allToks)

/-- The tokens of device `c`'s cells. -/
def minted (c : Dev nD) : sProp 𝕄 :=
  bigSep Finset.univ fun k : Option X => bigSep Finset.univ fun o : Fin 7 => dutyTok ER (kcell (c, k)) 0 o

def G (c : Dev nD) : sProp 𝕄 :=
  iprop((bigSep Finset.univ fun k : Option X => roundState ER (Rd m ρ) (kcell (c, k)) 0)
    ∗ ((bigSep Finset.univ fun k : Option X => atPos ER (kcell (c, k)) 0 ∅ 0) ∗ bigSep Finset.univ fun k : Option X => reached ER (kcell (c, k)) 0) ∗ minted c)
def G' (c : Dev nD) : sProp 𝕄 := iprop(∃ K, cellRecs m ρ K ∗ ghost c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Option X => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks minted; rw [bigSep_map, bigSep_univ_prod, bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option X => semVal (kcell (c, k)) 0 : sProp 𝕄) := by
  rw [unscopedSems0_eq, bigSep_opt]
  unfold Pipeline.ownSems0
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Option X => iprop(∃ κ : ℕ, cellInv ER (Rd m ρ) κ (kcell (c, k))))
          ∗ ((bigSep Finset.univ fun k : Option X => atPos ER (kcell (c, k)) 0 ∅ 0) ∗ bigSep Finset.univ fun k : Option X => reached ER (kcell (c, k)) 0) ∗ minted c) := by
  unfold G
  iintro ⟨Hos, Hus, Hst, Hat, Htok⟩
  ihave Hv := (sems0_eq (F := F) c) $$ [Hos Hus]
  · isplitl [Hos] <;> iassumption
  imod (show iprop((bigSep Finset.univ fun k : Option X => semVal (kcell (c, k)) 0) ∗ bigSep Finset.univ fun k : Option X => roundState ER (Rd m ρ) (kcell (c, k)) 0)
      ⊢ (|={Set.univ}=> bigSep Finset.univ fun k : Option X => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of exchange `q` on device `c`'s own cells. -/
def toksQ (q : Fin 2) (c : Dev nD) : sProp 𝕄 :=
  iprop((bigSep Finset.univ fun o : Fin 7 => dutyTok ER (xCell c (q, 0, o)) 0 0) ∗ bigSep Finset.univ fun o : Fin 7 => dutyTok ER (xCell c (q, 1, o)) 0 0)
/-- Those that it pays. -/
def payQ (q : Fin 2) (c : Dev nD) : sProp 𝕄 :=
  iprop((bigSep Finset.univ fun o : Fin 7 => dutyTok ER (xCell c (q, 0, o)) 0 0) ∗ bigSep Finset.univ fun o : Fin 7 => dutyTok ER (xCell (pe o c) (q, 1, o)) 0 0)
def payB (c : Dev nD) : sProp 𝕄 := bigSep Finset.univ fun o : Fin 7 => dutyTok ER (barCell (pe o c)) 0 o

omit [FloatOps F] in
theorem minted_split (c : Dev nD) :
    (minted c : sProp 𝕄) ⊢ iprop((bigSep Finset.univ fun o : Fin 7 => dutyTok ER (barCell c) 0 o) ∗ toksQ 0 c ∗ toksQ 1 c) := by
  unfold minted toksQ
  rw [bigSep_opt]
  have h : (bigSep Finset.univ fun x : X => bigSep Finset.univ fun o : Fin 7 => (dutyTok ER (kcell (c, some x)) 0 o : sProp 𝕄))
      ⊢ bigSep Finset.univ fun x : X => (dutyTok ER (xCell c x) 0 0 : sProp 𝕄) := bigSep_mono fun x _ => bigSep_elim (Finset.mem_univ (0 : Fin 7))
  iintro ⟨HB, HX⟩
  isplitl [HB]; · iexact HB
  ihave H := (h.trans (Entails.of_eq (bigSep_X _))) $$ HX
  icases H with ⟨H0, H1⟩
  isplitl [H0] <;> iassumption

omit [FloatOps F] in
/-- The tokens are dealt to the devices that pay them. -/
theorem toks_dealt : (bigSep Finset.univ fun c : Dev nD => (minted c : sProp 𝕄)) ⊢ bigSep Finset.univ fun c : Dev nD => iprop(payB c ∗ payQ 0 c ∗ payQ 1 c) := by
  have h : (bigSep Finset.univ fun c : Dev nD => (minted c : sProp 𝕄)) ⊢ bigSep Finset.univ fun c : Dev nD =>
    iprop((bigSep Finset.univ fun o : Fin 7 => dutyTok ER (barCell c) 0 o) ∗ toksQ 0 c ∗ toksQ 1 c) := bigSep_mono fun c _ => minted_split c
  unfold toksQ at h
  unfold payB payQ
  simp only [bigSep_sep'] at h ⊢
  rw [bigSep_deal fun c o => dutyTok ER (barCell c) 0 o, bigSep_deal fun c o => dutyTok ER (xCell c (0, 1, o)) 0 0,
    bigSep_deal fun c o => dutyTok ER (xCell c (1, 1, o)) 0 0] at h
  exact h

omit [FloatOps F] in
theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What stays with device `c`. -/
def own (c : Dev nD) : sProp 𝕄 := iprop((bigSep Finset.univ fun k : Option X => atPos ER (kcell (c, k)) 0 ∅ 0) ∗ payB c ∗ payQ 0 c ∗ payQ 1 c)

theorem ghost_of (K : Dev nD × Option X → ℕ) (c : Dev nD) : iprop(cellRecs m ρ K ∗ own c) ⊢ G' m ρ c := by
  unfold own payB payQ G' ghost ghostQ
  rw [bigSep_opt, bigSep_X]
  iintro ⟨HR, ⟨HB, ⟨A0, A1⟩, A2, A3⟩, TB, ⟨T0, T1⟩, T2, T3⟩
  iexists K
  isplitl [HR]; · iexact HR
  isplitl [HB]; · iexact HB
  isplitl [TB]; · iexact TB
  isplitl [A0 A1 T0 T1]
  · isplitl [A0]; · iexact A0
    isplitl [A1]; · iexact A1
    isplitl [T0] <;> iassumption
  isplitl [A2]; · iexact A2
  isplitl [A3]; · iexact A3
  isplitl [T2] <;> iassumption

theorem regroup :
    (bigSep Finset.univ fun c : Dev nD => iprop((bigSep Finset.univ fun k : Option X => iprop(∃ κ : ℕ, cellInv ER (Rd m ρ) κ (kcell (c, k))))
          ∗ ((bigSep Finset.univ fun k : Option X => atPos ER (kcell (c, k)) 0 ∅ 0) ∗ bigSep Finset.univ fun k : Option X => reached ER (kcell (c, k)) 0) ∗ minted c) : sProp 𝕄)
      ⊢ bigSep Finset.univ (G' m ρ) := by
  rw [bigSep_sep', bigSep_sep', bigSep_sep', ← bigSep_univ_prod (fun ck : Dev nD × Option X => iprop(∃ κ : ℕ, cellInv ER (Rd m ρ) κ (kcell ck))),
    ← bigSep_univ_prod (fun ck : Dev nD × Option X => (reached ER (kcell ck) 0 : sProp 𝕄))]
  iintro ⟨HI, ⟨Hat, #HR⟩, Htok⟩
  ihave HK := (BI.bigSep_exists_pi Finset.univ (fun (ck : Dev nD × Option X) (κ : ℕ) => (cellInv ER (Rd m ρ) κ (kcell ck) : sProp 𝕄))) $$ HI
  icases HK with ⟨%K, #HI⟩
  ihave Htk := (toks_dealt (F := F)) $$ Htok
  iapply (bigSep_under (R := cellRecs m ρ K) fun c _ => ghost_of m ρ K c)
  isplitr
  · unfold cellRecs; isplitl; · iexact HI
    iexact HR
  · unfold own
    iapply (Entails.of_eq (bigSep_sep' Finset.univ (fun c : Dev nD => bigSep Finset.univ fun k : Option X => (atPos ER (kcell (c, k)) 0 ∅ 0 : sProp 𝕄))
      (fun c => iprop(payB c ∗ payQ 0 c ∗ payQ 1 c))).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

def O₀ (c : Dev nD) : CellTallies nD τ sig Unit := oweB c os₀

theorem sumL_os (O : CellTallies nD τ sig Unit) (f : Fin 7 → CellTallies nD τ sig Unit) (g : GSem nD τ sig) (u : Unit) :
    sumL O f os₀ g u = O g u + ∑ o : Fin 7, f o g u := by
  simp only [sumL, Pi.add_apply, Finsupp.add_apply, Fin.sum_univ_seven]; omega

/-- The amount that the devices owe a cell, when each owes one cell of each peer. -/
theorem owed_total (k : Fin 7 → Option X) (a : ℕ) (c : Dev nD) (k' : Option X) :
    (∑ d : Dev nD, ∑ o : Fin 7, (tallyAt (kcell (pe o d, k o)) () a : CellTallies nD τ sig Unit) (kcell (c, k')) ()) = ∑ o : Fin 7, if k' = k o then a else 0 := by
  rw [Finset.sum_comm]
  refine Finset.sum_congr rfl fun o _ => ?_
  rw [Finset.sum_eq_single (pe o c)]
  · rw [tallyAt_apply, pe_pe]
    by_cases h : k' = k o
    · subst h; rw [if_pos ⟨rfl, rfl⟩, if_pos rfl]
    · rw [if_neg (fun h' => h (congrArg Prod.snd (kcell_inj h'.1))), if_neg h]
  · intro d _ hd
    rw [tallyAt_apply, if_neg]
    intro h'
    have : c = pe o d := congrArg Prod.fst (kcell_inj h'.1)
    exact hd (by rw [this, pe_pe])
  · exact fun h => absurd (Finset.mem_univ _) h

theorem launch_total (c : Dev nD) (k : Option X) : (∑ d : Dev nD, O₀ d (kcell (c, k)) ())
    = (∑ o : Fin 7, if k = some (1, 1, o) then N else 0) + (∑ o : Fin 7, if k = some (0, 1, o) then N else 0) + ∑ o : Fin 7, if k = none then 1 else 0 := by
  unfold O₀ oweB oweS
  simp only [sumL_os, Finset.sum_add_distrib]
  rw [← owed_total (fun o => some (1, 1, o)) N c k, ← owed_total (fun o => some (0, 1, o)) N c k, ← owed_total (fun _ => none) 1 c k]
  simp

theorem launch_cell (c : Dev nD) (k : Option X) (a : ℕ)
    (h : (∑ o : Fin 7, if k = some (1, 1, o) then N else 0) + (∑ o : Fin 7, if k = some (0, 1, o) then N else 0) + (∑ o : Fin 7, if k = none then 1 else 0) = a) :
    tallyOn (kcell (c, k)) (launchCredit (Pipeline.owing O₀) 0 (kcell (c, k))) = (tallyAt (kcell (c, k)) () a : CellTallies nD τ sig Unit) := by
  unfold tallyAt; refine congrArg _ (Finsupp.ext fun u => ?_); cases u
  rw [Pipeline.launchCredit_owing, Finsupp.single_eq_same, launch_total, h]

theorem launch_bar (c : Dev nD) :
    tallyOn (barCell c) (launchCredit (Pipeline.owing O₀) 0 (barCell c)) = (tallyAt (barCell c) () 7 : CellTallies nD τ sig Unit) :=
  launch_cell c none 7 (by simp)
theorem launch_recv (c : Dev nD) (q : Fin 2) (o : Fin 7) :
    tallyOn (xCell c (q, 1, o)) (launchCredit (Pipeline.owing O₀) 0 (xCell c (q, 1, o))) = (tallyAt (xCell c (q, 1, o)) () N : CellTallies nD τ sig Unit) :=
  launch_cell c (some (q, 1, o)) N (by
    match q with
    | 0 => simp
    | 1 => simp)

omit [FloatOps F] in
/-- What a conjunction over all semaphores says of the protocol's. -/
theorem bigSep_cells (Φ : SemLoc sig → sProp 𝕄) : bigSep Finset.univ Φ ⊢ bigSep Finset.univ fun k : Option X => Φ (csem k) := by
  have h : bigSep Finset.univ Φ ⊢ bigSep (Finset.univ.map ⟨csem, csem_inj⟩) Φ := bigSep_subset (Finset.subset_univ _)
  rw [bigSep_map] at h
  exact h

omit [FloatOps F] in
theorem creds (c : Dev nD) : (Pipeline.launchCred O₀ c : sProp 𝕄) ⊢ iprop(cred (tallyAt (barCell c) () 7) ∗ credQ 0 c ∗ credQ 1 c) := by
  unfold Pipeline.launchCred credQ
  simp only [← launch_bar, ← launch_recv]
  iintro H
  ihave H := (bigSep_cells _) $$ H
  ihave H := (Entails.of_eq (bigSep_opt _)) $$ H
  icases H with ⟨HB, H⟩
  ihave H := (Entails.of_eq (bigSep_X _)) $$ H
  icases H with ⟨⟨-, H0⟩, -, H1⟩
  isplitl [HB]; · iexact HB
  isplitl [H0] <;> iassumption

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, H2, H3⟩
  imodintro
  unfold start G'
  isplitl
  · isplitl [HG]; · iexact HG
    isplitl [H1]; · iexact H1
    isplitl [H2]; · iexact H2
    isplitl [H3]; · iexact H3
    iexact Hlev
  · iempintro

omit [FloatOps F] in
/-- The scratch buffers that the launch hands over. -/
theorem rest_bufs (c : Dev nD) : (Pipeline.scopedRest (Ix := Unit) (Name := ℕ) (U := UU) (Lvl := ℕ) (Val := Elt F) cfg0.spec c : sProp 𝕄) ⊣⊢ bufs c := by
  rw [scopedRest0_eq]
  unfold bufs buf stM rcM
  simp only [Memref.view_whole, View.set_whole]
  constructor
  · iintro ⟨H0, H1, H2, H3⟩
    isplitl [H0]; · iexact H0
    isplitl [H1]; · iexact H1
    isplitl [H2] <;> iassumption
  · iintro ⟨H0, H1, H2, H3⟩
    isplitl [H0]; · iexact H0
    isplitl [H1]; · iexact H1
    isplitl [H2] <;> iassumption

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (rest_bufs (F := F) c).1; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁ zeroQ Pipeline.ownSems0
  rw [bigSep_X]
  iintro ⟨Hr, Z0, Z1, HB⟩
  isplitl [HB]; · iexact HB
  isplitl [Z0 Z1]
  · isplitl [Z0] <;> iassumption
  iapply (rest_bufs (F := F) c).2; iexact Hr

theorem waits (c : Dev nD) : (levAts L lv : sProp 𝕄) ⊢ Pipeline.cellsWaits cfgs (dats m ρ) () 0 c :=
  Pipeline.cellsWaits_intro cfgs (dats m ρ) () 0 c fun w s t =>
    mayWait_of_above c _ 0 (by fin_cases w <;> fin_cases s <;> decide +kernel) (by
      rcases t with ⟨_ | _, ht⟩
      · exact above_B c os₀
      · exact above_zero 0)

/-! ## The run -/

/-- The arrays of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with every counter at zero, for any float values: each execution of the program on the eight devices ends, each result array
    holds the contents that `finalA` names, and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_oblig m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block that came in is unchanged. -/
theorem finalA_x (c : Dev nD) : finalA m ρ c (0 : Fin 2) = m (win0_0.arr.view.loc (c : Thread nD τ)) :=
  (dats (F := F) m ρ 0 c).arrAt_in (0 : Fin 2) rfl _

end Cert.Exchange

end
-- ==== Proof.Frames.lean ====
/-
# The frames, and the contents of the result

The runs of the three programs read at their argument arrays and counters, and the kernel's result array as the body left it.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 16384

noncomputable section

namespace Cert.Exchange

open Cert.KernelIdeal Cert.KernelIdeal.Gen
open Idealize.ShloMosaic
open Idealize.ShloMosaic.TcCoe
open Idealize.SL.Sem

/-- Every argument array of the idealized kernel is unchanged and every counter is zero again. -/
theorem frame_KernelIdeal : Cert.quiescent_KernelIdeal := fun m ρ _ =>
  (θ_run Cert.KernelIdeal.defs _ _).mono (fun _ h => ⟨fun c => (h.1 c 0).trans (finalA_x m ρ c), h.2⟩) (run_main (F := Ideal) m ρ)

/-- The kernel itself has the same text, so the same bodies. -/
theorem bodies_eq : Cert.Kernel.defs₀ (F := Bits) = Cert.KernelIdeal.defs₀ (F := Bits) :=
  congrArg Defs.onTc (funext fun l => funext fun a => match l, a with
    | 0, (_, _) => rfl)
theorem defs_eq : Cert.Kernel.defs (F := Bits) = Cert.KernelIdeal.defs (F := Bits) := congrArg (Pipeline.defs Cert.KernelIdeal.pcfgs) bodies_eq

theorem frame_bits (m : (ℓ : Loc nD τ sig) → Buf (Elt Bits) ℓ) (ρ : Dev nD → PrngReg) :
    θ_run (Cert.KernelIdeal.defs (F := Bits)) (onTc (τ := τ) (main (F := Bits))) ⟨m, fun _ => 0, ρ⟩
      (fun r => (∀ c : Dev nD, r.2.mem ((c.tc : Thread nD τ).loc main_arg0) = m ((c.tc : Thread nD τ).loc main_arg0)) ∧ r.2.sem = fun _ => 0) :=
  (θ_run Cert.KernelIdeal.defs _ _).mono (fun _ h => ⟨fun c => (h.1 c 0).trans (finalA_x m ρ c), h.2⟩) (run_main (F := Bits) m ρ)

theorem frame_Kernel : Cert.quiescent_Kernel := fun m ρ _ => by
  rw [defs_eq]; exact frame_bits m ρ

section
variable {F : FTy → Type} [FloatOps F]
variable (m : (ℓ : Loc nD τ sig) → Buf (Elt F) ℓ) (ρ : Dev nD → PrngReg)

theorem read_whole0 (f : Vec F S256x128 .f32) : (win0_0.blk (0 : Fin 1)).view.read (Elt F) f = f := by
  funext i; show f _ = f _
  refine congrArg f (funext fun a => Fin.ext ?_)
  match a with
  | 0 => exact (Nat.zero_add _).trans (Nat.one_mul _)
  | 1 => exact (Nat.zero_add _).trans (Nat.one_mul _)
theorem read_whole1 (f : Vec F S256x128 .f32) : (win0_1.blk (0 : Fin 1)).view.read (Elt F) f = f := by
  funext i; show f _ = f _
  refine congrArg f (funext fun a => Fin.ext ?_)
  match a with
  | 0 => exact (Nat.zero_add _).trans (Nat.one_mul _)
  | 1 => exact (Nat.zero_add _).trans (Nat.one_mul _)

theorem xstg_eq (c : Dev nD) : xstg m ρ c = m ((c : Thread nD τ).loc main_arg0) := read_whole0 _

/-- The result array is what the body left. -/
theorem finalA_out (c : Dev nD) : finalA m ρ c (1 : Fin 2) = outV m ρ c := by
  refine (read_whole1 (finalA m ρ c (1 : Fin 2))).symm.trans ?_
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide +kernel, if_pos rfl]
  exact View.read_write_univ _ _

end

end Cert.Exchange

end
-- ==== Proof.Stages.lean ====
/-
# The stages of the sort, as operations on a whole block

A compare-exchange stage of the bitonic sort is written in the program in two ways: between rows `j` apart (the block cut
into groups of `2 j` rows), or between lanes `sh` apart (the block rotated both ways along the lanes). Before and after the
sort, three steps trade the high bits of a row number for the high bits of a lane number.

The definitions here state one such step for every size, and `exchange` picks the one that compares ranks
differing in a given bit. The vectors the program computes are these steps one after the other (`locOut_eq`, `mrgOut_eq`,
`finOut_eq`).
-/
module

public import proofs.«01_k».proof.Proof.Contents

@[expose] public section

noncomputable section

namespace Cert.Exchange

open Cert.KernelIdeal Cert.KernelIdeal.Gen
open Idealize.ShloMosaic

variable {F : FTy → Type} [FloatOps F]

/-- Where the ranks `r` have the bit `k` clear. -/
def ascending (r : IVec S256x128 32) (k : BitVec 32) : IVec S256x128 1 :=
  cmpi .eq (andi r (broadcast S256x128 k)) (broadcast S256x128 0#32)

/-- Compare rows `j` apart in each of `g` groups of `w` rows: where the group's lower row is ascending the lesser goes there. -/
def rowStage (g w j : Nat)
    (hin : S256x128.ShapeCasts ⟨3, ![g, w, 128]⟩)
    (hlo : (⟨3, ![g, w, 128]⟩ : Shape).Slices ![0, 0, 0] ⟨3, ![g, j, 128]⟩)
    (hhi : (⟨3, ![g, w, 128]⟩ : Shape).Slices ![0, j, 0] ⟨3, ![g, j, 128]⟩)
    (hcat : Shape.Concatenates [(⟨3, ![g, j, 128]⟩ : Shape), ⟨3, ![g, j, 128]⟩] ⟨3, ![g, w, 128]⟩ 1)
    (hout : (⟨3, ![g, w, 128]⟩ : Shape).ShapeCasts S256x128)
    (r : IVec S256x128 32) (k : BitVec 32) (y : FVec F S256x128 .f32) : FVec F S256x128 .f32 :=
  let y3 := shapeCast ⟨3, ![g, w, 128]⟩ y hin
  let lo := extractStridedSlice ⟨3, ![g, j, 128]⟩ ![0, 0, 0] y3 hlo
  let hi := extractStridedSlice ⟨3, ![g, j, 128]⟩ ![0, j, 0] y3 hhi
  let mn := minimumf lo hi
  let mx := maximumf lo hi
  let up := extractStridedSlice ⟨3, ![g, j, 128]⟩ ![0, 0, 0] (shapeCast ⟨3, ![g, w, 128]⟩ (ascending r k) hin) hlo
  shapeCast S256x128 (concatenate ⟨3, ![g, w, 128]⟩ 1
    [⟨⟨3, ![g, j, 128]⟩, select up mn mx⟩, ⟨⟨3, ![g, j, 128]⟩, select up mx mn⟩] hcat) hout

/-- Where the lane number has the bit `sh` clear. -/
def laneLow (sh : BitVec 32) : IVec S1x128 1 :=
  cmpi .eq (andi (iota .tc S1x128 32 [1] iota_S1x128_d1_w32) (broadcast S1x128 sh)) (broadcast S1x128 0#32)

/-- Compare lanes `sh` apart, `nsh` being `128 - sh`. -/
def laneStage (sh nsh : BitVec 32) (r : IVec S256x128 32) (k : BitVec 32) (y : FVec F S256x128 .f32) : FVec F S256x128 .f32 :=
  let low := laneLow sh
  let other := select (broadcastTo S256x128 (shapeCast S1x128 low shapeCasts_S1x128_S1x128) broadcasts_S1x128_S256x128)
    (dynamicRotate 1 nsh none y rotates_S256x128_d1) (dynamicRotate 1 sh none y rotates_S256x128_d1)
  let keep := xori (xori (ascending r k)
      (broadcastTo S256x128 (broadcastTo S256x128 low broadcasts_S1x128_S256x128) broadcasts_S256x128_S256x128))
    (constantI S256x128 1 1#1)
  select keep (minimumf y other) (maximumf y other)

/-- The stage of level `l` that compares ranks differing in bit `s`: bits 0 to 4 and 8 to 10 of a rank lie along the rows,
    bits 5 to 7 along the lanes. -/
def exchange (r : IVec S256x128 32) (l s : Nat) (y : FVec F S256x128 .f32) : FVec F S256x128 .f32 :=
  let k := BitVec.ofNat 32 (2 ^ (l + 1))
  match s with
  | 0 => rowStage 128 2 1 shapeCasts_S256x128_S128x2x128 slices_S128x2x128_o0_0_0_S128x1x128 slices_S128x2x128_o0_1_0_S128x1x128
      concatenates_S128x1x128_S128x1x128_S128x2x128_d1 shapeCasts_S128x2x128_S256x128 r k y
  | 1 => rowStage 64 4 2 shapeCasts_S256x128_S64x4x128 slices_S64x4x128_o0_0_0_S64x2x128 slices_S64x4x128_o0_2_0_S64x2x128
      concatenates_S64x2x128_S64x2x128_S64x4x128_d1 shapeCasts_S64x4x128_S256x128 r k y
  | 2 => rowStage 32 8 4 shapeCasts_S256x128_S32x8x128 slices_S32x8x128_o0_0_0_S32x4x128 slices_S32x8x128_o0_4_0_S32x4x128
      concatenates_S32x4x128_S32x4x128_S32x8x128_d1 shapeCasts_S32x8x128_S256x128 r k y
  | 3 => rowStage 16 16 8 shapeCasts_S256x128_S16x16x128 slices_S16x16x128_o0_0_0_S16x8x128 slices_S16x16x128_o0_8_0_S16x8x128
      concatenates_S16x8x128_S16x8x128_S16x16x128_d1 shapeCasts_S16x16x128_S256x128 r k y
  | 4 => rowStage 8 32 16 shapeCasts_S256x128_S8x32x128 slices_S8x32x128_o0_0_0_S8x16x128 slices_S8x32x128_o0_16_0_S8x16x128
      concatenates_S8x16x128_S8x16x128_S8x32x128_d1 shapeCasts_S8x32x128_S256x128 r k y
  | 5 => laneStage 16#32 112#32 r k y
  | 6 => laneStage 32#32 96#32 r k y
  | 7 => laneStage 64#32 64#32 r k y
  | 8 => rowStage 4 64 32 shapeCasts_S256x128_S4x64x128 slices_S4x64x128_o0_0_0_S4x32x128 slices_S4x64x128_o0_32_0_S4x32x128
      concatenates_S4x32x128_S4x32x128_S4x64x128_d1 shapeCasts_S4x64x128_S256x128 r k y
  | 9 => rowStage 2 128 64 shapeCasts_S256x128_S2x128x128 slices_S2x128x128_o0_0_0_S2x64x128 slices_S2x128x128_o0_64_0_S2x64x128
      concatenates_S2x64x128_S2x64x128_S2x128x128_d1 shapeCasts_S2x128x128_S256x128 r k y
  | _ => rowStage 1 256 128 shapeCasts_S256x128_S1x256x128 slices_S1x256x128_o0_0_0_S1x128x128 slices_S1x256x128_o0_128_0_S1x128x128
      concatenates_S1x128x128_S1x128x128_S1x256x128_d1 shapeCasts_S1x256x128_S256x128 r k y

/-- The stages of level `l` down from bit `s`, which comes first. -/
def levelFrom (r : IVec S256x128 32) (l : Nat) : Nat → FVec F S256x128 .f32 → FVec F S256x128 .f32
  | 0, y => exchange r l 0 y
  | s + 1, y => levelFrom r l s (exchange r l (s + 1) y)

/-- Trade one bit of the row number (bit `a` of it) for one bit of the lane number (bit `b`): `dr`, `nr` are the two row
    rotations, `dl`, `nl` the two lane rotations. -/
def tradeBit (a b dr nr dl nl : BitVec 32) (y : FVec F S256x128 .f32) : FVec F S256x128 .f32 :=
  let rb := andi (shrsi (iota .tc S256x1 32 [0] iota_S256x1_d0_w32) (broadcast S256x1 a)) (broadcast S256x1 1#32)
  let lb := andi (shrsi (iota .tc S1x128 32 [1] iota_S1x128_d1_w32) (broadcast S1x128 b)) (broadcast S1x128 1#32)
  let same := cmpi .eq (broadcastTo S256x128 rb broadcasts_S256x1_S256x128) (broadcastTo S256x128 lb broadcasts_S1x128_S256x128)
  let rowSet := broadcastTo S256x128 (shapeCast S256x1 (cmpi .eq rb (broadcast S256x1 1#32)) shapeCasts_S256x1_S256x1)
    broadcasts_S256x1_S256x128
  select same y (select rowSet
    (dynamicRotate 0 dr none (dynamicRotate 1 nl none y rotates_S256x128_d1) rotates_S256x128_d0)
    (dynamicRotate 0 nr none (dynamicRotate 1 dl none y rotates_S256x128_d1) rotates_S256x128_d0))

/-- The three trades. -/
def tradeBits (y : FVec F S256x128 .f32) : FVec F S256x128 .f32 :=
  tradeBit 7#32 6#32 128#32 128#32 64#32 64#32
    (tradeBit 6#32 5#32 64#32 192#32 32#32 96#32 (tradeBit 5#32 4#32 32#32 224#32 16#32 112#32 y))

/-! ## The program's vectors are these steps -/

set_option maxRecDepth 65536 in
/-- A device sorts its rows: the trades, then the stages of levels 0 to 7. -/
theorem locOut_eq (c : Dev nD) (x : Vec F S256x128 .f32) : locOut c x =
    shapeCast S8x32x128 (shapeCast S8x32x128 (levelFrom (k0_pay2 c) 7 7 (levelFrom (k0_pay2 c) 6 6 (levelFrom (k0_pay2 c) 5 5
      (levelFrom (k0_pay2 c) 4 4 (levelFrom (k0_pay2 c) 3 3 (levelFrom (k0_pay2 c) 2 2 (levelFrom (k0_pay2 c) 1 1
        (levelFrom (k0_pay2 c) 0 0 (tradeBits (shapeCast S256x128 x shapeCasts_S256x128_S256x128))))))))))
      shapeCasts_S256x128_S8x32x128) shapeCasts_S8x32x128_S8x32x128 := rfl

set_option maxRecDepth 65536 in
/-- A device merges what it received: the stages of levels 8 to 10. -/
theorem mrgOut_eq (g : Vec F S8x32x128 .f32) : mrgOut g =
    shapeCast S8x32x128 (shapeCast S8x32x128 (levelFrom k0_pay3 10 10 (levelFrom k0_pay3 9 9 (levelFrom k0_pay3 8 8
      (shapeCast S256x128 g shapeCasts_S8x32x128_S256x128)))) shapeCasts_S256x128_S8x32x128) shapeCasts_S8x32x128_S8x32x128 := rfl

set_option maxRecDepth 65536 in
/-- A device puts its block of the result together: the trades alone. -/
theorem finOut_eq (g : Vec F S8x32x128 .f32) :
    finOut g = tradeBits (shapeCast S256x128 g shapeCasts_S8x32x128_S256x128) := rfl

end Cert.Exchange

end
-- ==== Proof.Reads.lean ====
/-
# What a step reads

Each step of `Stages` at the place (row, lane): which places of its operand it reads, and how it combines them.
-/
module

public import proofs.«01_k».proof.Proof.Stages
public import Idealize.ShloMosaic.Lib.ValueLayoutCasts
public import Idealize.ShloMosaic.Lib.Pointwise

@[expose] public section

noncomputable section

namespace Cert.Exchange

open Cert.KernelIdeal Cert.KernelIdeal.Gen
open Idealize.ShloMosaic hiding ix1 ix2 ix3
open Idealize.ShloMosaic.ValueIdx

variable {F : FTy → Type} [FloatOps F]

/-! ## Groups of rows -/

/-- A block cut into groups of `w` rows. -/
theorem group_apply {α : Type} {g w : Nat} (y : S256x128.Idx → α) (h : S256x128.ShapeCasts ⟨3, ![g, w, 128]⟩)
    (a : Fin g) (b : Fin w) (L : Fin 128) (R : Fin 256) (hR : R.val = a.val * w + b.val) :
    shapeCast ⟨3, ![g, w, 128]⟩ y h (ix3 a b L) = y (ix2 R L) :=
  shapeCast_apply y h _ _ (by
    rw [Shape.rowMajor_val_two, Shape.rowMajor_val_three]
    show R.val * 128 + L.val = (a.val * w + b.val) * 128 + L.val
    rw [hR])

/-- Groups of `w` rows put back into a block. -/
theorem ungroup_apply {α : Type} {g w : Nat} (y : (⟨3, ![g, w, 128]⟩ : Shape).Idx → α) (h : (⟨3, ![g, w, 128]⟩ : Shape).ShapeCasts S256x128)
    (a : Fin g) (b : Fin w) (L : Fin 128) (R : Fin 256) (hR : R.val = a.val * w + b.val) :
    shapeCast S256x128 y h (ix2 R L) = y (ix3 a b L) :=
  shapeCast_apply y h _ _ (by
    rw [Shape.rowMajor_val_two, Shape.rowMajor_val_three]
    show (a.val * w + b.val) * 128 + L.val = R.val * 128 + L.val
    rw [hR])

section rows
variable {g w j : Nat}
    (hin : S256x128.ShapeCasts ⟨3, ![g, w, 128]⟩)
    (hlo : (⟨3, ![g, w, 128]⟩ : Shape).Slices ![0, 0, 0] ⟨3, ![g, j, 128]⟩)
    (hhi : (⟨3, ![g, w, 128]⟩ : Shape).Slices ![0, j, 0] ⟨3, ![g, j, 128]⟩)
    (hcat : Shape.Concatenates [(⟨3, ![g, j, 128]⟩ : Shape), ⟨3, ![g, j, 128]⟩] ⟨3, ![g, w, 128]⟩ 1)
    (hout : (⟨3, ![g, w, 128]⟩ : Shape).ShapeCasts S256x128)
    (r : IVec S256x128 32) (k : BitVec 32) (y : FVec F S256x128 .f32)

/-- The lower row of a pair. -/
theorem rowStage_low (hw : w = 2 * j) (a : Fin g) (b : Nat) (hb : b < j) (L : Fin 128) (R R' : Fin 256)
    (hR : R.val = a.val * w + b) (hR' : R'.val = a.val * w + (j + b)) :
    rowStage g w j hin hlo hhi hcat hout r k y (ix2 R L)
      = Scalar.select (ascending r k (ix2 R L)) (FloatOps.minimumf (y (ix2 R L)) (y (ix2 R' L)))
          (FloatOps.maximumf (y (ix2 R L)) (y (ix2 R' L))) := by
  have hbw : b < w := by omega
  have hjb : j + b < w := by omega
  unfold rowStage
  rw [ungroup_apply _ hout a ⟨b, hbw⟩ L R hR]
  refine (concatenate_pair_apply_left 1 _ _ hcat (ix3 a ⟨b, hbw⟩ L) rfl (ix3 a ⟨b, hb⟩ L) fun d => ?_).trans ?_
  · match d with | ⟨0, _⟩ => rfl | ⟨1, _⟩ => rfl | ⟨2, _⟩ => rfl
  · show Scalar.select (extractStridedSlice _ _ _ hlo (ix3 a ⟨b, hb⟩ L))
      (FloatOps.minimumf (extractStridedSlice _ _ _ hlo (ix3 a ⟨b, hb⟩ L)) (extractStridedSlice _ _ _ hhi (ix3 a ⟨b, hb⟩ L)))
      (FloatOps.maximumf (extractStridedSlice _ _ _ hlo (ix3 a ⟨b, hb⟩ L)) (extractStridedSlice _ _ _ hhi (ix3 a ⟨b, hb⟩ L))) = _
    rw [slice3_axis1_apply 0 _ hlo a ⟨b, hb⟩ L ⟨b, hbw⟩ (Nat.zero_add b).symm,
      slice3_axis1_apply 0 _ hlo a ⟨b, hb⟩ L ⟨b, hbw⟩ (Nat.zero_add b).symm,
      slice3_axis1_apply j _ hhi a ⟨b, hb⟩ L ⟨j + b, hjb⟩ rfl,
      group_apply y hin a ⟨b, hbw⟩ L R hR, group_apply y hin a ⟨j + b, hjb⟩ L R' hR',
      group_apply (ascending r k) hin a ⟨b, hbw⟩ L R hR]

/-- The upper row of a pair. -/
theorem rowStage_high (hw : w = 2 * j) (a : Fin g) (b : Nat) (hb : b < j) (L : Fin 128) (R R' : Fin 256)
    (hR : R.val = a.val * w + b) (hR' : R'.val = a.val * w + (j + b)) :
    rowStage g w j hin hlo hhi hcat hout r k y (ix2 R' L)
      = Scalar.select (ascending r k (ix2 R L)) (FloatOps.maximumf (y (ix2 R L)) (y (ix2 R' L)))
          (FloatOps.minimumf (y (ix2 R L)) (y (ix2 R' L))) := by
  have hbw : b < w := by omega
  have hjb : j + b < w := by omega
  unfold rowStage
  rw [ungroup_apply _ hout a ⟨j + b, hjb⟩ L R' hR']
  refine (concatenate_pair_apply_right 1 _ _ hcat (ix3 a ⟨j + b, hjb⟩ L) rfl rfl (ix3 a ⟨b, hb⟩ L) (fun d hd => ?_) ?_).trans ?_
  · match d, hd with | ⟨0, _⟩, _ => rfl | ⟨1, _⟩, hd => exact absurd rfl hd | ⟨2, _⟩, _ => rfl
  · exact Nat.add_comm b j
  · show Scalar.select (extractStridedSlice _ _ _ hlo (ix3 a ⟨b, hb⟩ L))
      (FloatOps.maximumf (extractStridedSlice _ _ _ hlo (ix3 a ⟨b, hb⟩ L)) (extractStridedSlice _ _ _ hhi (ix3 a ⟨b, hb⟩ L)))
      (FloatOps.minimumf (extractStridedSlice _ _ _ hlo (ix3 a ⟨b, hb⟩ L)) (extractStridedSlice _ _ _ hhi (ix3 a ⟨b, hb⟩ L))) = _
    rw [slice3_axis1_apply 0 _ hlo a ⟨b, hb⟩ L ⟨b, hbw⟩ (Nat.zero_add b).symm,
      slice3_axis1_apply 0 _ hlo a ⟨b, hb⟩ L ⟨b, hbw⟩ (Nat.zero_add b).symm,
      slice3_axis1_apply j _ hhi a ⟨b, hb⟩ L ⟨j + b, hjb⟩ rfl,
      group_apply y hin a ⟨b, hbw⟩ L R hR, group_apply y hin a ⟨j + b, hjb⟩ L R' hR',
      group_apply (ascending r k) hin a ⟨b, hbw⟩ L R hR]

end rows

/-! ## Rotations, and words spread over a block -/

theorem rotateLanes_apply {α : Type} (n : BitVec 32) (x : S256x128.Idx → α) (h : S256x128.Rotates 1 none) (R : Fin 256) (L L' : Fin 128)
    (hL : L'.val = (L.val + 128 - n.toNat % 128) % 128) : dynamicRotate 1 n none x h (ix2 R L) = x (ix2 R L') := by
  rw [Pointwise.dynamicRotate_apply, Shape.Idx.norm_def]
  congr 1
  funext d
  match d with
  | ⟨0, _⟩ => rfl
  | ⟨1, _⟩ => exact Fin.ext hL.symm

theorem rotateRows_apply {α : Type} (n : BitVec 32) (x : S256x128.Idx → α) (h : S256x128.Rotates 0 none) (R R' : Fin 256) (L : Fin 128)
    (hR : R'.val = (R.val + 256 - n.toNat % 256) % 256) : dynamicRotate 0 n none x h (ix2 R L) = x (ix2 R' L) := by
  rw [Pointwise.dynamicRotate_apply, Shape.Idx.norm_def]
  congr 1
  funext d
  match d with
  | ⟨0, _⟩ => exact Fin.ext hR.symm
  | ⟨1, _⟩ => rfl

theorem spreadLane_apply {α : Type} (x : S1x128.Idx → α) (h : S1x128.Broadcasts S256x128) (R : Fin 256) (L : Fin 128) :
    broadcastTo S256x128 x h (ix2 R L) = x (ix2 0 L) := by
  unfold broadcastTo
  congr 1
  funext d
  match d with | ⟨0, _⟩ => rfl | ⟨1, _⟩ => rfl

theorem spreadRow_apply {α : Type} (x : S256x1.Idx → α) (h : S256x1.Broadcasts S256x128) (R : Fin 256) (L : Fin 128) :
    broadcastTo S256x128 x h (ix2 R L) = x (ix2 R 0) := by
  unfold broadcastTo
  congr 1
  funext d
  match d with | ⟨0, _⟩ => rfl | ⟨1, _⟩ => rfl

theorem spreadSelf_apply {α : Type} (x : S256x128.Idx → α) (h : S256x128.Broadcasts S256x128) (R : Fin 256) (L : Fin 128) :
    broadcastTo S256x128 x h (ix2 R L) = x (ix2 R L) := by
  unfold broadcastTo
  congr 1
  funext d
  match d with | ⟨0, _⟩ => rfl | ⟨1, _⟩ => rfl

theorem laneNumber_apply (L : Fin 128) : iota .tc S1x128 32 [1] iota_S1x128_d1_w32 (ix2 0 L) = BitVec.ofNat 32 L.val := by
  unfold iota
  rw [List.foldl_cons, List.foldl_nil, Nat.zero_mul, Nat.zero_add]

theorem rowNumber_apply (R : Fin 256) : iota .tc S256x1 32 [0] iota_S256x1_d0_w32 (ix2 R 0) = BitVec.ofNat 32 R.val := by
  unfold iota
  rw [List.foldl_cons, List.foldl_nil, Nat.zero_mul, Nat.zero_add]

/-! ## Lanes -/

theorem laneStage_apply (sh nsh : BitVec 32) (r : IVec S256x128 32) (k : BitVec 32) (y : FVec F S256x128 .f32) (R : Fin 256) (L Lup Ldn : Fin 128)
    (hup : Lup.val = (L.val + 128 - nsh.toNat % 128) % 128) (hdn : Ldn.val = (L.val + 128 - sh.toNat % 128) % 128) :
    laneStage sh nsh r k y (ix2 R L)
      = (let low := IntOp.cmpi .eq (IntOp.andi (BitVec.ofNat 32 L.val) sh) 0#32
         let other := Scalar.select low (y (ix2 R Lup)) (y (ix2 R Ldn))
         Scalar.select (IntOp.xori (IntOp.xori (ascending r k (ix2 R L)) low) 1#1)
           (FloatOps.minimumf (y (ix2 R L)) other) (FloatOps.maximumf (y (ix2 R L)) other)) := by
  have hlow : laneLow sh (ix2 0 L) = IntOp.cmpi .eq (IntOp.andi (BitVec.ofNat 32 L.val) sh) 0#32 := by
    show IntOp.cmpi .eq (IntOp.andi (iota .tc S1x128 32 [1] iota_S1x128_d1_w32 (ix2 0 L)) sh) 0#32 = _
    rw [laneNumber_apply]
  have hother : select (broadcastTo S256x128 (shapeCast S1x128 (laneLow sh) shapeCasts_S1x128_S1x128) broadcasts_S1x128_S256x128)
      (dynamicRotate 1 nsh none y rotates_S256x128_d1) (dynamicRotate 1 sh none y rotates_S256x128_d1) (ix2 R L)
      = Scalar.select (IntOp.cmpi .eq (IntOp.andi (BitVec.ofNat 32 L.val) sh) 0#32) (y (ix2 R Lup)) (y (ix2 R Ldn)) := by
    rw [ValueIdx.select_apply, spreadLane_apply, shapeCast_id, hlow, rotateLanes_apply nsh y _ R L Lup hup, rotateLanes_apply sh y _ R L Ldn hdn]
  unfold laneStage
  dsimp only
  rw [ValueIdx.select_apply, Idealize.ShloMosaic.minimumf_apply, Idealize.ShloMosaic.maximumf_apply, hother]
  congr 1
  show IntOp.xori (IntOp.xori (ascending r k (ix2 R L)) (broadcastTo S256x128 (broadcastTo S256x128 (laneLow sh) _) _ (ix2 R L))) 1#1 = _
  rw [spreadSelf_apply, spreadLane_apply, hlow]

/-! ## Trades -/

theorem tradeBit_apply (a b dr nr dl nl : BitVec 32) (y : FVec F S256x128 .f32) (R Rdn Rup : Fin 256) (L Ldn Lup : Fin 128)
    (hRdn : Rdn.val = (R.val + 256 - dr.toNat % 256) % 256) (hRup : Rup.val = (R.val + 256 - nr.toNat % 256) % 256)
    (hLdn : Ldn.val = (L.val + 128 - dl.toNat % 128) % 128) (hLup : Lup.val = (L.val + 128 - nl.toNat % 128) % 128) :
    tradeBit a b dr nr dl nl y (ix2 R L)
      = (let rb := IntOp.andi (IntOp.shrsi .vector (BitVec.ofNat 32 R.val) a) 1#32
         let lb := IntOp.andi (IntOp.shrsi .vector (BitVec.ofNat 32 L.val) b) 1#32
         Scalar.select (IntOp.cmpi .eq rb lb) (y (ix2 R L))
           (Scalar.select (IntOp.cmpi .eq rb 1#32) (y (ix2 Rdn Lup)) (y (ix2 Rup Ldn)))) := by
  unfold tradeBit
  dsimp only
  rw [ValueIdx.select_apply, ValueIdx.select_apply,
    rotateRows_apply dr _ _ R Rdn L hRdn, rotateRows_apply nr _ _ R Rup L hRup,
    rotateLanes_apply nl _ _ Rdn L Lup hLup, rotateLanes_apply dl _ _ Rup L Ldn hLdn, spreadRow_apply, shapeCast_id]
  show Scalar.select (IntOp.cmpi .eq (broadcastTo S256x128 _ _ (ix2 R L)) (broadcastTo S256x128 _ _ (ix2 R L))) _ _ = _
  rw [spreadRow_apply, spreadLane_apply, ← rowNumber_apply R, ← laneNumber_apply L]
  rfl

end Cert.Exchange

end
-- ==== Proof.Ranks.lean ====
/-
# A stage on a block is a stage of the sorting network

A device's block holds entries of several columns of the whole array. `Place` says which: the entry at (row, lane) is the one of column
`col` at rank `rank`, a number below 2048. `Holds p V y` says that the block `y` has at every place the entry the family of columns `V` has there.
If a block holds `V`, then after `exchange … l s` it holds `V` with that one stage of the network applied to every column
(`Holds.exchange`), and after a whole level with that level (`Holds.level`).
-/
module

public import proofs.«01_k».proof.Proof.Reads
public import Idealize.ShloMosaic.Lib.SortNet.Printed
public import Idealize.ShloMosaic.Lib.SortNet.Sorts

@[expose] public section

noncomputable section

namespace Cert.Exchange

open Cert.KernelIdeal Cert.KernelIdeal.Gen
open Idealize.ShloMosaic hiding ix1 ix2 ix3
open Idealize.ShloMosaic.ValueIdx
open Idealize.ShloMosaic.SortNet

/-- The high three bits of a row number. -/
def rowHi (R : Fin 256) : Fin 8 := ⟨R.val / 32, by omega⟩
/-- The low four bits of a lane number. -/
def laneLo (L : Fin 128) : Fin 16 := ⟨L.val % 16, by omega⟩

/-- How a block's places name entries: `hi` gives the high three bits of the rank and `col` the column. -/
structure Place where
  hi : Fin 8 → Fin 8
  col : Fin 8 → Fin 16 → Fin 128

/-- The rank of a place: three high bits from `hi`, three from the lane, five from the row. -/
def Place.rank (p : Place) (R : Fin 256) (L : Fin 128) : Fin (2 ^ 11) :=
  ⟨256 * (p.hi (rowHi R)).val + 32 * (L.val / 16) + R.val % 32, by
    have := (p.hi (rowHi R)).isLt
    have := L.isLt
    show _ < 2048
    omega⟩

/-- The family of columns a block holds parts of. -/
abbrev Columns := Fin 128 → Fin (2 ^ 11) → EReal

/-- The block `y` has, at every place, the entry of `V` there. -/
def Holds (p : Place) (V : Columns) (y : FVec Ideal S256x128 .f32) : Prop :=
  ∀ R L, y (ix2 R L) = V (p.col (rowHi R) (laneLo L)) (p.rank R L)

/-- The words `r` are the ranks of the places. -/
def Ranked (p : Place) (r : IVec S256x128 32) : Prop := ∀ R L, r (ix2 R L) = BitVec.ofNat 32 (p.rank R L).val

/-- One stage of level `l` of the ascending sort, at every column. -/
def netStage (l s : Nat) (V : Columns) : Columns := fun c =>
  Network.apply (stage 11 s fun i => (decide (i.val &&& 2 ^ (l + 1) = 0)) == false) (V c)

/-! ## Partners -/

theorem clear_of_even {s : Nat} (x : Fin (2 ^ 11)) (h : x.val / 2 ^ s % 2 = 0) : x.val &&& 2 ^ s = 0 := by
  rw [and_two_pow_eq_zero_iff_testBit, Nat.testBit_eq_decide_div_mod_eq, h]
  rfl

theorem partner_of_add {s : Nat} (hs : s < 11) (x y : Fin (2 ^ 11)) (h : x.val / 2 ^ s % 2 = 0) (hy : y.val = x.val + 2 ^ s) :
    partner 11 s x = y := by
  apply Fin.ext
  rw [partner_val hs, hy]
  exact xor_two_pow_of_clear _ _ (clear_of_even x h)

theorem ascending_apply {p : Place} {r : IVec S256x128 32} (hr : Ranked p r) {l : Nat} (hl : l < 11) (R : Fin 256) (L : Fin 128) :
    ascending r (BitVec.ofNat 32 (2 ^ (l + 1))) (ix2 R L) = BitVec.ofBool (decide ((p.rank R L).val &&& 2 ^ (l + 1) = 0)) := by
  have hlt : (p.rank R L).val < 2 ^ 32 := Nat.lt_trans (p.rank R L).isLt (by decide)
  show BitVec.ofBool (IntOp.andi (r (ix2 R L)) (BitVec.ofNat 32 (2 ^ (l + 1))) == 0#32) = _
  rw [hr, beq_eq_decide]
  congr 1
  refine decide_eq_decide.mpr (and_distance_eq_zero_iff hlt _ ?_)
  rw [BitVec.toNat_ofNat, Nat.mod_eq_of_lt (Nat.pow_lt_pow_right (by decide) (by omega))]

/-- Both members of a pair go the same way. -/
theorem clear_of_add {l s : Nat} (hs : s < 11) (hsl : s ≤ l) (x y : Fin (2 ^ 11)) (hx : x.val / 2 ^ s % 2 = 0) (hy : y.val = x.val + 2 ^ s) :
    (y.val &&& 2 ^ (l + 1) = 0) = (x.val &&& 2 ^ (l + 1) = 0) := by
  have e : y.val = x.val ^^^ 2 ^ s := by rw [hy]; exact (xor_two_pow_of_clear _ _ (clear_of_even x hx)).symm
  rw [and_two_pow_eq_zero_iff_testBit, and_two_pow_eq_zero_iff_testBit, e, Nat.testBit_xor, Nat.testBit_two_pow_of_ne (by omega),
    Bool.xor_false]

/-- The lower and the upper rank of a pair after one stage. -/
theorem netStage_pair {l s : Nat} (hs : s < 11) (V : Columns) (c : Fin 128) (x y : Fin (2 ^ 11)) (hx : x.val / 2 ^ s % 2 = 0)
    (hy : y.val = x.val + 2 ^ s) :
    netStage l s V c x = (if x.val &&& 2 ^ (l + 1) = 0 then min (V c x) (V c y) else max (V c x) (V c y))
      ∧ netStage l s V c y = (if x.val &&& 2 ^ (l + 1) = 0 then max (V c x) (V c y) else min (V c x) (V c y)) := by
  have e := partner_of_add hs x y hx hy
  have h := apply_stage hs (fun i => (decide (i.val &&& 2 ^ (l + 1) = 0)) == false) (V c) x (clear_of_even x hx)
  rw [e] at h
  unfold netStage
  rw [h.1, h.2]
  by_cases hc : x.val &&& 2 ^ (l + 1) = 0
  · simp [hc]
  · simp [hc]

section
variable {p : Place} {V : Columns} {r : IVec S256x128 32} {y : FVec Ideal S256x128 .f32} {l s : Nat}

/-! ## A stage between rows -/

theorem Holds.rowStage {g w j : Nat}
    (hin : S256x128.ShapeCasts ⟨3, ![g, w, 128]⟩)
    (hlo : (⟨3, ![g, w, 128]⟩ : Shape).Slices ![0, 0, 0] ⟨3, ![g, j, 128]⟩)
    (hhi : (⟨3, ![g, w, 128]⟩ : Shape).Slices ![0, j, 0] ⟨3, ![g, j, 128]⟩)
    (hcat : Shape.Concatenates [(⟨3, ![g, j, 128]⟩ : Shape), ⟨3, ![g, j, 128]⟩] ⟨3, ![g, w, 128]⟩ 1)
    (hout : (⟨3, ![g, w, 128]⟩ : Shape).ShapeCasts S256x128)
    (hy : Holds p V y) (hr : Ranked p r) (hl : l < 11) (hs : s < 11) (hw : w = 2 * j) (hj : 0 < j) (hg : g * w = 256)
    (hpair : ∀ (R R' : Fin 256) (L : Fin 128), R.val % w < j → R'.val = R.val + j →
      (p.rank R L).val / 2 ^ s % 2 = 0 ∧ (p.rank R' L).val = (p.rank R L).val + 2 ^ s
        ∧ p.col (rowHi R') (laneLo L) = p.col (rowHi R) (laneLo L)) :
    Holds p (netStage l s V) (Cert.Exchange.rowStage g w j hin hlo hhi hcat hout r (BitVec.ofNat 32 (2 ^ (l + 1))) y) := by
  intro R L
  have hwp : 0 < w := by omega
  have hdm := Nat.div_add_mod R.val w
  have hmod := Nat.mod_lt R.val hwp
  have ha : R.val / w < g := (Nat.div_lt_iff_lt_mul hwp).mpr (by rw [hg]; exact R.isLt)
  have hcomm : w * (R.val / w) = R.val / w * w := Nat.mul_comm ..
  by_cases hb : R.val % w < j
  · have hle : R.val / w * w + w ≤ 256 := by
      have := Nat.mul_le_mul_right w (Nat.succ_le_of_lt ha)
      rwa [Nat.succ_mul, hg] at this
    let R' : Fin 256 := ⟨R.val + j, by omega⟩
    obtain ⟨h0, h1, h2⟩ := hpair R R' L hb rfl
    rw [rowStage_low hin hlo hhi hcat hout r _ y hw ⟨R.val / w, ha⟩ (R.val % w) hb L R R' (show R.val = R.val / w * w + R.val % w by omega)
      (show R.val + j = R.val / w * w + (j + R.val % w) by omega), ascending_apply hr hl, select_ofBool, hy R L, hy R' L, h2,
      (netStage_pair hs V _ _ _ h0 h1).1]
    simp only [decide_eq_true_eq]
    rfl
  · let R' : Fin 256 := ⟨R.val - j, by omega⟩
    have hm : (R.val - j) % w = R.val % w - j := by
      have e : R.val - j = (R.val % w - j) + w * (R.val / w) := by omega
      rw [e, Nat.add_mul_mod_self_left, Nat.mod_eq_of_lt (by omega)]
    have hlow : R'.val % w < j := by show (R.val - j) % w < j; rw [hm]; omega
    obtain ⟨h0, h1, h2⟩ := hpair R' R L hlow (show R.val = R.val - j + j by omega)
    rw [rowStage_high hin hlo hhi hcat hout r _ y hw ⟨R.val / w, ha⟩ (R.val % w - j) (by omega) L R' R
      (show R.val - j = R.val / w * w + (R.val % w - j) by omega)
      (show R.val = R.val / w * w + (j + (R.val % w - j)) by omega), ascending_apply hr hl, select_ofBool, hy R L, hy R' L, ← h2,
      (netStage_pair hs V _ _ _ h0 h1).2]
    simp only [decide_eq_true_eq]
    rfl

/-! ## A stage between lanes -/

theorem Holds.laneStage {sh nsh : BitVec 32} {m : Nat} (hy : Holds p V y) (hr : Ranked p r) (hl : l < 11) (hs : s < 11) (hsl : s ≤ l)
    (hm : m < 128) (hsh : sh.toNat = m) (hnsh : nsh.toNat = 128 - m) (hm0 : 0 < m)
    (hbit : ∀ L : Fin 128, IntOp.cmpi .eq (IntOp.andi (BitVec.ofNat 32 L.val) sh) 0#32 = BitVec.ofBool (decide (L.val / m % 2 = 0)))
    (hpair : ∀ (R : Fin 256) (L : Fin 128), L.val / m % 2 = 0 → ∃ h : L.val + m < 128,
      (p.rank R L).val / 2 ^ s % 2 = 0 ∧ (p.rank R ⟨L.val + m, h⟩).val = (p.rank R L).val + 2 ^ s
        ∧ laneLo ⟨L.val + m, h⟩ = laneLo L)
    (hset : ∀ L : Fin 128, L.val / m % 2 ≠ 0 → m ≤ L.val ∧ (L.val - m) / m % 2 = 0) :
    Holds p (netStage l s V) (Cert.Exchange.laneStage sh nsh r (BitVec.ofNat 32 (2 ^ (l + 1))) y) := by
  intro R L
  have hL := L.isLt
  rw [laneStage_apply sh nsh r _ y R L ⟨(L.val + m) % 128, Nat.mod_lt _ (by decide)⟩ ⟨(L.val + (128 - m)) % 128, Nat.mod_lt _ (by decide)⟩
    (by show (L.val + m) % 128 = _; rw [hnsh]; congr 1; omega) (by show (L.val + (128 - m)) % 128 = _; rw [hsh]; congr 1; omega)]
  dsimp only
  rw [hbit, ascending_apply hr hl, ofBool_xor_xor_one, select_ofBool, select_ofBool]
  by_cases hb : L.val / m % 2 = 0
  · obtain ⟨hlt, h0, h1, h2⟩ := hpair R L hb
    have e : (⟨(L.val + m) % 128, Nat.mod_lt _ (by decide)⟩ : Fin 128) = ⟨L.val + m, hlt⟩ := Fin.ext (Nat.mod_eq_of_lt hlt)
    rw [e, hy R L, hy R ⟨L.val + m, hlt⟩, h2, (netStage_pair hs V _ _ _ h0 h1).1]
    simp only [hb, decide_true, if_true, decide_eq_true_eq]
    rfl
  · obtain ⟨hge, hb'⟩ := hset L hb
    obtain ⟨hlt, h0, h1, h2⟩ := hpair R ⟨L.val - m, by omega⟩ hb'
    have e : (⟨(L.val + (128 - m)) % 128, Nat.mod_lt _ (by decide)⟩ : Fin 128) = ⟨L.val - m, by omega⟩ :=
      Fin.ext (show (L.val + (128 - m)) % 128 = L.val - m by omega)
    have e' : (⟨L.val - m + m, hlt⟩ : Fin 128) = L := Fin.ext (show L.val - m + m = L.val by omega)
    rw [e'] at h1 h2
    have hcl := clear_of_add hs hsl _ _ h0 h1
    rw [e, hy R L, hy R ⟨L.val - m, by omega⟩, ← h2, (netStage_pair hs V _ _ _ h0 h1).2]
    by_cases hc : (p.rank R ⟨L.val - m, by omega⟩).val &&& 2 ^ (l + 1) = 0
    · simp only [hb, hcl, hc, decide_true, decide_false, if_true]
      exact max_comm _ _
    · simp only [hb, hcl, hc, decide_false, if_false]
      exact min_comm _ _

end

end Cert.Exchange

end
-- ==== Proof.Levels.lean ====
/-
# The levels of the sort on one block

The pairs of every stage, read off from the places: bits 0 to 4 of a rank are bits 0 to 4 of the row, bits 5 to 7 the high bits of the
lane, and, where a block holds all the ranks of its columns, bits 8 to 10 the high bits of the row. So every `exchange` is a stage of the
network, every `levelFrom` a level of it, and the words the program compares with are the ranks.
-/
module

public import proofs.«01_k».proof.Proof.Ranks

@[expose] public section

noncomputable section

namespace Cert.Exchange

open Cert.KernelIdeal Cert.KernelIdeal.Gen
open Idealize.ShloMosaic hiding ix1 ix2 ix3
open Idealize.ShloMosaic.ValueIdx
open Idealize.ShloMosaic.SortNet

/-- All the ranks of a column are in one block. -/
def Place.Whole (p : Place) : Prop := (∀ a, p.hi a = a) ∧ ∀ a b q, p.col a q = p.col b q

theorem Place.rank_val (p : Place) (R : Fin 256) (L : Fin 128) :
    (p.rank R L).val = 256 * (p.hi (rowHi R)).val + 32 * (L.val / 16) + R.val % 32 := rfl

/-! ## The pairs -/

theorem pair_low (p : Place) {s : Nat} (hs : s ≤ 4) (R R' : Fin 256) (L : Fin 128) (hb : R.val % 2 ^ (s + 1) < 2 ^ s)
    (hR : R'.val = R.val + 2 ^ s) :
    (p.rank R L).val / 2 ^ s % 2 = 0 ∧ (p.rank R' L).val = (p.rank R L).val + 2 ^ s
      ∧ p.col (rowHi R') (laneLo L) = p.col (rowHi R) (laneLo L) := by
  have e : rowHi R' = rowHi R := by
    apply Fin.ext
    show R'.val / 32 = R.val / 32
    obtain rfl | rfl | rfl | rfl | rfl : s = 0 ∨ s = 1 ∨ s = 2 ∨ s = 3 ∨ s = 4 := by omega
    all_goals simp only [Nat.reduceAdd, Nat.reducePow] at hb hR; omega
  rw [Place.rank_val, Place.rank_val, e]
  refine ⟨?_, ?_, rfl⟩
  all_goals
    obtain rfl | rfl | rfl | rfl | rfl : s = 0 ∨ s = 1 ∨ s = 2 ∨ s = 3 ∨ s = 4 := by omega
    all_goals
      simp only [Nat.reduceAdd, Nat.reducePow] at hb hR ⊢
      omega

theorem pair_high (p : Place) (hp : p.Whole) {t : Nat} (ht : t ≤ 2) (R R' : Fin 256) (L : Fin 128)
    (hb : R.val % (32 * 2 ^ (t + 1)) < 32 * 2 ^ t) (hR : R'.val = R.val + 32 * 2 ^ t) :
    (p.rank R L).val / 2 ^ (8 + t) % 2 = 0 ∧ (p.rank R' L).val = (p.rank R L).val + 2 ^ (8 + t)
      ∧ p.col (rowHi R') (laneLo L) = p.col (rowHi R) (laneLo L) := by
  have hL := L.isLt
  have hr : (p.rank R L).val / 256 = R.val / 32 := by
    rw [Place.rank_val, hp.1]
    show (256 * (R.val / 32) + _ + _) / 256 = _
    omega
  refine ⟨?_, ?_, hp.2 _ _ _⟩
  · rw [Nat.pow_add, ← Nat.div_div_eq_div_mul]
    show (p.rank R L).val / 256 / _ % _ = _
    rw [hr]
    obtain rfl | rfl | rfl : t = 0 ∨ t = 1 ∨ t = 2 := by omega
    all_goals
      simp only [Nat.reduceAdd, Nat.reducePow, Nat.reduceMul] at hb ⊢
      omega
  · rw [Place.rank_val, Place.rank_val, hp.1, hp.1]
    show 256 * (R'.val / 32) + _ + _ = 256 * (R.val / 32) + _ + _ + _
    obtain rfl | rfl | rfl : t = 0 ∨ t = 1 ∨ t = 2 := by omega
    all_goals
      simp only [Nat.reduceAdd, Nat.reducePow, Nat.reduceMul] at hb hR ⊢
      omega

theorem pair_lane (p : Place) {t : Nat} (ht : t ≤ 2) (R : Fin 256) (L : Fin 128) (hb : L.val / (16 * 2 ^ t) % 2 = 0) :
    ∃ h : L.val + 16 * 2 ^ t < 128, (p.rank R L).val / 2 ^ (5 + t) % 2 = 0
      ∧ (p.rank R ⟨L.val + 16 * 2 ^ t, h⟩).val = (p.rank R L).val + 2 ^ (5 + t) ∧ laneLo ⟨L.val + 16 * 2 ^ t, h⟩ = laneLo L := by
  have hL := L.isLt
  have h : L.val + 16 * 2 ^ t < 128 := by
    obtain rfl | rfl | rfl : t = 0 ∨ t = 1 ∨ t = 2 := by omega
    all_goals
      simp only [Nat.reducePow, Nat.reduceMul] at hb ⊢
      omega
  refine ⟨h, ?_, ?_, Fin.ext (show (L.val + 16 * 2 ^ t) % 16 = L.val % 16 by omega)⟩
  all_goals
    simp only [Place.rank_val]
    obtain rfl | rfl | rfl : t = 0 ∨ t = 1 ∨ t = 2 := by omega
    all_goals
      simp only [Nat.reduceAdd, Nat.reducePow, Nat.reduceMul] at hb ⊢
      omega

theorem set_lane {t : Nat} (ht : t ≤ 2) (L : Fin 128) (hb : L.val / (16 * 2 ^ t) % 2 ≠ 0) :
    16 * 2 ^ t ≤ L.val ∧ (L.val - 16 * 2 ^ t) / (16 * 2 ^ t) % 2 = 0 := by
  obtain rfl | rfl | rfl : t = 0 ∨ t = 1 ∨ t = 2 := by omega
  all_goals
    simp only [Nat.reducePow, Nat.reduceMul] at hb ⊢
    omega

theorem lane_bit {t : Nat} (ht : t ≤ 2) (L : Fin 128) :
    IntOp.cmpi .eq (IntOp.andi (BitVec.ofNat 32 L.val) (BitVec.ofNat 32 (16 * 2 ^ t))) 0#32
      = BitVec.ofBool (decide (L.val / (16 * 2 ^ t) % 2 = 0)) := by
  obtain rfl | rfl | rfl : t = 0 ∨ t = 1 ∨ t = 2 := by omega
  all_goals
    revert L
    decide +kernel

/-! ## Stages and levels -/

section
variable {p : Place} {V : Columns} {r : IVec S256x128 32} {y : FVec Ideal S256x128 .f32}

theorem Holds.exchange {l s : Nat} (hy : Holds p V y) (hr : Ranked p r) (hl : l < 11) (hsl : s ≤ l) (hp : 8 ≤ s → p.Whole) :
    Holds p (netStage l s V) (Cert.Exchange.exchange r l s y) := by
  match s, hsl, hp with
  | 0, _, _ => exact hy.rowStage _ _ _ _ _ hr hl (by decide) rfl (by decide) rfl (pair_low p (s := 0) (by decide))
  | 1, _, _ => exact hy.rowStage _ _ _ _ _ hr hl (by decide) rfl (by decide) rfl (pair_low p (s := 1) (by decide))
  | 2, _, _ => exact hy.rowStage _ _ _ _ _ hr hl (by decide) rfl (by decide) rfl (pair_low p (s := 2) (by decide))
  | 3, _, _ => exact hy.rowStage _ _ _ _ _ hr hl (by decide) rfl (by decide) rfl (pair_low p (s := 3) (by decide))
  | 4, _, _ => exact hy.rowStage _ _ _ _ _ hr hl (by decide) rfl (by decide) rfl (pair_low p (s := 4) (by decide))
  | 5, hsl, _ =>
    exact hy.laneStage (sh := 16#32) (nsh := 112#32) (m := 16) hr hl (by decide) hsl (by decide) rfl rfl (by decide)
      (lane_bit (t := 0) (by decide)) (pair_lane p (t := 0) (by decide)) (set_lane (t := 0) (by decide))
  | 6, hsl, _ =>
    exact hy.laneStage (sh := 32#32) (nsh := 96#32) (m := 32) hr hl (by decide) hsl (by decide) rfl rfl (by decide)
      (lane_bit (t := 1) (by decide)) (pair_lane p (t := 1) (by decide)) (set_lane (t := 1) (by decide))
  | 7, hsl, _ =>
    exact hy.laneStage (sh := 64#32) (nsh := 64#32) (m := 64) hr hl (by decide) hsl (by decide) rfl rfl (by decide)
      (lane_bit (t := 2) (by decide)) (pair_lane p (t := 2) (by decide)) (set_lane (t := 2) (by decide))
  | 8, _, hp => exact hy.rowStage _ _ _ _ _ hr hl (by decide) rfl (by decide) rfl (pair_high p (hp (by decide)) (t := 0) (by decide))
  | 9, _, hp => exact hy.rowStage _ _ _ _ _ hr hl (by decide) rfl (by decide) rfl (pair_high p (hp (by decide)) (t := 1) (by decide))
  | 10, _, hp => exact hy.rowStage _ _ _ _ _ hr hl (by decide) rfl (by decide) rfl (pair_high p (hp (by decide)) (t := 2) (by decide))
  | s + 11, hsl, _ => omega

/-- The network of level `l`, from bit `s` down. -/
def levelNet (l s : Nat) : Network (2 ^ 11) :=
  (List.range (s + 1)).reverse.flatMap fun u => stage 11 u fun i => (decide (i.val &&& 2 ^ (l + 1) = 0)) == false

theorem levelNet_succ (l s : Nat) (v : Fin (2 ^ 11) → EReal) :
    Network.apply (levelNet l (s + 1)) v
      = Network.apply (levelNet l s) (Network.apply (stage 11 (s + 1) fun i => (decide (i.val &&& 2 ^ (l + 1) = 0)) == false) v) := by
  unfold levelNet
  rw [List.range_succ (n := s + 1), List.reverse_append, List.reverse_singleton, List.singleton_append, List.flatMap_cons,
    Network.apply_append]

theorem Holds.level {l s : Nat} (hy : Holds p V y) (hr : Ranked p r) (hl : l < 11) (hsl : s ≤ l) (hp : 8 ≤ s → p.Whole) :
    Holds p (fun c => Network.apply (levelNet l s) (V c)) (levelFrom r l s y) := by
  induction s generalizing V y with
  | zero =>
    have h := hy.exchange hr hl hsl hp
    have e : netStage l 0 V = fun c => Network.apply (levelNet l 0) (V c) := by
      funext c
      unfold levelNet netStage
      simp only [Nat.zero_add, List.range_one, List.reverse_singleton, List.flatMap_cons, List.flatMap_nil, List.append_nil]
    rw [← e]
    exact h
  | succ s ih =>
    have h := ih (hy.exchange hr hl hsl hp) (by omega) (fun h => hp (by omega))
    have e : (fun c => Network.apply (levelNet l s) (netStage l (s + 1) V c)) = fun c => Network.apply (levelNet l (s + 1)) (V c) := by
      funext c
      exact (levelNet_succ l s (V c)).symm
    rw [← e]
    exact h

end

/-- Levels 0 to `n - 1`. -/
def levelsTo (n : Nat) : Network (2 ^ 11) := (List.range n).flatMap fun l => levelNet l l

theorem levelsTo_succ (n : Nat) (v : Fin (2 ^ 11) → EReal) :
    Network.apply (levelNet n n) (Network.apply (levelsTo n) v) = Network.apply (levelsTo (n + 1)) v := by
  unfold levelsTo
  rw [List.range_succ, List.flatMap_append, Network.apply_append, List.flatMap_singleton]

/-- Eleven levels are the whole sort. -/
theorem levelsTo_all : levelsTo 11 = sortNet 11 false := rfl

/-- One more level on a block that has had `l` of them. -/
theorem Holds.next {p : Place} {U : Columns} {r : IVec S256x128 32} {y : FVec Ideal S256x128 .f32} {l : Nat}
    (hy : Holds p (fun c => Network.apply (levelsTo l) (U c)) y) (hr : Ranked p r) (hl : l < 11) (hp : 8 ≤ l → p.Whole) :
    Holds p (fun c => Network.apply (levelsTo (l + 1)) (U c)) (levelFrom r l l y) := by
  have h := hy.level hr hl (Nat.le_refl l) hp
  simp only [levelsTo_succ] at h
  exact h

/-! ## The places of the two phases -/

/-- While device `c` sorts its own rows: its 256 rows are 256 ranks of every column. -/
def homePlace (c : Fin 8) : Place := ⟨fun _ => c, fun a q => ⟨16 * a.val + q.val, by omega⟩⟩

/-- While device `c` merges: it has all the ranks of sixteen columns. -/
def mergePlace (c : Fin 8) : Place := ⟨fun a => a, fun _ q => ⟨16 * c.val + q.val, by omega⟩⟩

theorem mergePlace_whole (c : Fin 8) : (mergePlace c).Whole := ⟨fun _ => rfl, fun _ _ _ => rfl⟩

theorem rowLow_word (R : Fin 256) : IntOp.andi (BitVec.ofNat 32 R.val) 31#32 = BitVec.ofNat 32 (R.val % 32) := by
  revert R
  decide +kernel

theorem laneHigh_word (L : Fin 128) :
    IntOp.muli (IntOp.andi (IntOp.shrsi .vector (BitVec.ofNat 32 L.val) 4#32) 7#32) 32#32 = BitVec.ofNat 32 (32 * (L.val / 16)) := by
  revert L
  decide +kernel

theorem rowHigh_word (R : Fin 256) :
    IntOp.muli (IntOp.shrsi .vector (BitVec.ofNat 32 R.val) 5#32) 256#32 = BitVec.ofNat 32 (256 * (R.val / 32)) := by
  revert R
  decide +kernel

theorem device_word (c : Dev nD) :
    Scalar.muli (Scalar.remsi (Scalar.divsi (Dev.word c) 1#32) 8#32) 256#32 = BitVec.ofNat 32 (256 * c.val) := by
  revert c
  decide +kernel

theorem pay1_apply (R : Fin 256) (L : Fin 128) : k0_pay1 (ix2 R L) = BitVec.ofNat 32 (32 * (L.val / 16) + R.val % 32) := by
  show IntOp.addi (broadcastTo S256x128 _ _ (ix2 R L)) (broadcastTo S256x128 _ _ (ix2 R L)) = _
  rw [spreadRow_apply, spreadLane_apply]
  show IntOp.addi (IntOp.andi (iota .tc S256x1 32 [0] iota_S256x1_d0_w32 (ix2 R 0)) 31#32)
    (IntOp.muli (IntOp.andi (IntOp.shrsi .vector (iota .tc S1x128 32 [1] iota_S1x128_d1_w32 (ix2 0 L)) 4#32) 7#32) 32#32) = _
  rw [rowNumber_apply, laneNumber_apply, rowLow_word, laneHigh_word, Nat.add_comm]
  exact (BitVec.ofNat_add ..).symm

/-- Device `c`'s comparison words are the ranks of its own rows. -/
theorem home_ranked (c : Dev nD) : Ranked (homePlace c) (k0_pay2 c) := by
  intro R L
  show IntOp.addi (Scalar.muli (Scalar.remsi (Scalar.divsi (Dev.word c) 1#32) 8#32) 256#32) (k0_pay1 (ix2 R L)) = _
  rw [device_word, pay1_apply, Place.rank_val, Nat.add_assoc]
  exact (BitVec.ofNat_add ..).symm

/-- The words of the merge are the ranks of the gathered rows. -/
theorem merge_ranked (c : Fin 8) : Ranked (mergePlace c) k0_pay3 := by
  intro R L
  show IntOp.addi (broadcastTo S256x128 _ _ (ix2 R L)) (k0_pay1 (ix2 R L)) = _
  rw [spreadRow_apply, pay1_apply, Place.rank_val, Nat.add_assoc]
  show IntOp.addi (IntOp.muli (IntOp.shrsi .vector (iota .tc S256x1 32 [0] iota_S256x1_d0_w32 (ix2 R 0)) 5#32) 256#32) _ = _
  rw [rowNumber_apply, rowHigh_word]
  exact (BitVec.ofNat_add ..).symm

end Cert.Exchange

end
-- ==== Proof.Trades.lean ====
/-
# The trades

Three times a block trades one bit of the row number for one of the lane number. Together they swap bits 5 to 7 of the row with bits 4 to 6 of
the lane.
-/
module

public import proofs.«01_k».proof.Proof.Levels

@[expose] public section

noncomputable section

namespace Cert.Exchange

open Cert.KernelIdeal Cert.KernelIdeal.Gen
open Idealize.ShloMosaic hiding ix1 ix2 ix3
open Idealize.ShloMosaic.ValueIdx
open Idealize.ShloMosaic.SortNet

variable {F : FTy → Type} [FloatOps F]

theorem row_bit {t : Nat} (ht : t ≤ 2) (R : Fin 256) :
    IntOp.andi (IntOp.shrsi .vector (BitVec.ofNat 32 R.val) (BitVec.ofNat 32 (5 + t))) 1#32
      = BitVec.ofNat 32 (R.val / (32 * 2 ^ t) % 2) := by
  obtain rfl | rfl | rfl : t = 0 ∨ t = 1 ∨ t = 2 := by omega
  all_goals
    revert R
    decide +kernel

theorem lane_bit_word {t : Nat} (ht : t ≤ 2) (L : Fin 128) :
    IntOp.andi (IntOp.shrsi .vector (BitVec.ofNat 32 L.val) (BitVec.ofNat 32 (4 + t))) 1#32
      = BitVec.ofNat 32 (L.val / (16 * 2 ^ t) % 2) := by
  obtain rfl | rfl | rfl : t = 0 ∨ t = 1 ∨ t = 2 := by omega
  all_goals
    revert L
    decide +kernel

section
variable {α : Type} (x u v : α)
theorem pick_same (b : Fin 2) : Scalar.select (IntOp.cmpi .eq (BitVec.ofNat 32 b.val) (BitVec.ofNat 32 b.val)) x u = x := by
  have h : IntOp.cmpi .eq (BitVec.ofNat 32 b.val) (BitVec.ofNat 32 b.val) = BitVec.ofBool true := by
    revert b
    decide
  rw [h, select_ofBool, if_pos rfl]
theorem pick_row : Scalar.select (IntOp.cmpi .eq (BitVec.ofNat 32 1) (BitVec.ofNat 32 0)) x
    (Scalar.select (IntOp.cmpi .eq (BitVec.ofNat 32 1) 1#32) u v) = u := by
  have h : IntOp.cmpi .eq (BitVec.ofNat 32 1) (BitVec.ofNat 32 0) = BitVec.ofBool false := by decide
  have h' : IntOp.cmpi .eq (BitVec.ofNat 32 1) 1#32 = BitVec.ofBool true := by decide
  rw [h, h', select_ofBool, select_ofBool, if_neg Bool.false_ne_true, if_pos rfl]
theorem pick_lane : Scalar.select (IntOp.cmpi .eq (BitVec.ofNat 32 0) (BitVec.ofNat 32 1)) x
    (Scalar.select (IntOp.cmpi .eq (BitVec.ofNat 32 0) 1#32) u v) = v := by
  have h : IntOp.cmpi .eq (BitVec.ofNat 32 0) (BitVec.ofNat 32 1) = BitVec.ofBool false := by decide
  rw [h, select_ofBool, select_ofBool, if_neg Bool.false_ne_true, if_neg Bool.false_ne_true]
end

/-- One trade: the entry comes from the place with the two bits swapped. -/
theorem tradeBit_swap (a b : BitVec 32) (n m : Nat) (hn : n ≤ 128) (hm : m ≤ 64) (hn0 : 0 < n) (hm0 : 0 < m)
    (y : FVec F S256x128 .f32) (R R' : Fin 256) (L L' : Fin 128) (rb lb : Fin 2)
    (ha : IntOp.andi (IntOp.shrsi .vector (BitVec.ofNat 32 R.val) a) 1#32 = BitVec.ofNat 32 rb.val)
    (hb : IntOp.andi (IntOp.shrsi .vector (BitVec.ofNat 32 L.val) b) 1#32 = BitVec.ofNat 32 lb.val)
    (hR : R'.val + n * rb.val = R.val + n * lb.val) (hL : L'.val + m * lb.val = L.val + m * rb.val) :
    tradeBit a b (BitVec.ofNat 32 n) (BitVec.ofNat 32 (256 - n)) (BitVec.ofNat 32 m) (BitVec.ofNat 32 (128 - m)) y (ix2 R L)
      = y (ix2 R' L') := by
  rw [tradeBit_apply _ _ _ _ _ _ y R ⟨_, Nat.mod_lt _ (by decide)⟩ ⟨_, Nat.mod_lt _ (by decide)⟩ L ⟨_, Nat.mod_lt _ (by decide)⟩
    ⟨_, Nat.mod_lt _ (by decide)⟩ rfl rfl rfl rfl]
  dsimp only
  rw [ha, hb]
  have e1 : (BitVec.ofNat 32 n).toNat = n := by rw [BitVec.toNat_ofNat]; omega
  have e2 : (BitVec.ofNat 32 (256 - n)).toNat = 256 - n := by rw [BitVec.toNat_ofNat]; omega
  have e3 : (BitVec.ofNat 32 m).toNat = m := by rw [BitVec.toNat_ofNat]; omega
  have e4 : (BitVec.ofNat 32 (128 - m)).toNat = 128 - m := by rw [BitVec.toNat_ofNat]; omega
  simp only [e1, e2, e3, e4]
  have hRl := R.isLt
  have hLl := L.isLt
  have hR'l := R'.isLt
  have hL'l := L'.isLt
  match rb, lb with
  | 0, 0 =>
    rw [pick_same, Fin.ext (show R'.val = R.val from Nat.add_right_cancel hR), Fin.ext (show L'.val = L.val from Nat.add_right_cancel hL)]
  | 1, 1 =>
    rw [pick_same, Fin.ext (show R'.val = R.val from Nat.add_right_cancel hR), Fin.ext (show L'.val = L.val from Nat.add_right_cancel hL)]
  | 1, 0 =>
    have hR1 : R'.val + n * 1 = R.val + n * 0 := hR
    have hL1 : L'.val + m * 0 = L.val + m * 1 := hL
    refine (pick_row _ _ _).trans ?_
    have f1 : (R.val + 256 - n % 256) % 256 = R'.val := by omega
    have f2 : (L.val + 128 - (128 - m) % 128) % 128 = L'.val := by omega
    simp only [f1, f2]
  | 0, 1 =>
    have hR1 : R'.val + n * 0 = R.val + n * 1 := hR
    have hL1 : L'.val + m * 1 = L.val + m * 0 := hL
    refine (pick_lane _ _ _).trans ?_
    have f1 : (R.val + 256 - (256 - n) % 256) % 256 = R'.val := by omega
    have f2 : (L.val + 128 - m % 128) % 128 = L'.val := by omega
    simp only [f1, f2]

theorem bit_of {x n q r : Nat} (b : Fin 2) (hr : r < n) (hx : x = n * (2 * q + b.val) + r) : x / n % 2 = b.val := by
  rw [hx, Nat.mul_add_div (Nat.zero_lt_of_lt hr), Nat.div_eq_of_lt hr]
  omega

/-- The trades, the bits written out. -/
theorem tradeBits_bits (y : FVec F S256x128 .f32) (R R' : Fin 256) (L L' : Fin 128) (a2 a1 a0 b2 b1 b0 : Fin 2) (r l : Nat)
    (hr : r < 32) (hl : l < 16)
    (hR : R.val = 128 * a2.val + 64 * a1.val + 32 * a0.val + r) (hL : L.val = 64 * b2.val + 32 * b1.val + 16 * b0.val + l)
    (hR' : R'.val = 128 * b2.val + 64 * b1.val + 32 * b0.val + r) (hL' : L'.val = 64 * a2.val + 32 * a1.val + 16 * a0.val + l) :
    tradeBits y (ix2 R L) = y (ix2 R' L') := by
  let R2 : Fin 256 := ⟨128 * b2.val + 64 * a1.val + 32 * a0.val + r, by omega⟩
  let L2 : Fin 128 := ⟨64 * a2.val + 32 * b1.val + 16 * b0.val + l, by omega⟩
  let R1 : Fin 256 := ⟨128 * b2.val + 64 * b1.val + 32 * a0.val + r, by omega⟩
  let L1 : Fin 128 := ⟨64 * a2.val + 32 * a1.val + 16 * b0.val + l, by omega⟩
  have hR2 : R2.val = 128 * b2.val + 64 * a1.val + 32 * a0.val + r := rfl
  have hL2 : L2.val = 64 * a2.val + 32 * b1.val + 16 * b0.val + l := rfl
  have hR1 : R1.val = 128 * b2.val + 64 * b1.val + 32 * a0.val + r := rfl
  have hL1 : L1.val = 64 * a2.val + 32 * a1.val + 16 * b0.val + l := rfl
  clear_value R2 L2 R1 L1
  have ra2 := (row_bit (t := 2) (by decide) R).trans (congrArg (BitVec.ofNat 32) (bit_of (n := 128) (q := 0) (r := 64 * a1.val + 32 * a0.val + r) a2 (by omega) (by omega)))
  have lb2 := (lane_bit_word (t := 2) (by decide) L).trans (congrArg (BitVec.ofNat 32) (bit_of (n := 64) (q := 0) (r := 32 * b1.val + 16 * b0.val + l) b2 (by omega) (by omega)))
  have ra1 := (row_bit (t := 1) (by decide) R2).trans (congrArg (BitVec.ofNat 32) (bit_of (n := 64) (q := b2.val) (r := 32 * a0.val + r) a1 (by omega) (by omega)))
  have lb1 := (lane_bit_word (t := 1) (by decide) L2).trans (congrArg (BitVec.ofNat 32) (bit_of (n := 32) (q := a2.val) (r := 16 * b0.val + l) b1 (by omega) (by omega)))
  have ra0 := (row_bit (t := 0) (by decide) R1).trans (congrArg (BitVec.ofNat 32) (bit_of (n := 32) (q := 2 * b2.val + b1.val) (r := r) a0 (by omega) (by omega)))
  have lb0 := (lane_bit_word (t := 0) (by decide) L1).trans (congrArg (BitVec.ofNat 32) (bit_of (n := 16) (q := 2 * a2.val + a1.val) (r := l) b0 (by omega) (by omega)))
  unfold tradeBits
  refine (tradeBit_swap 7#32 6#32 128 64 (by decide) (by decide) (by decide) (by decide) _ R R2 L L2 a2 b2 ra2 lb2 ?_ ?_).trans
    ((tradeBit_swap 6#32 5#32 64 32 (by decide) (by decide) (by decide) (by decide) _ R2 R1 L2 L1 a1 b1 ra1 lb1 ?_ ?_).trans
      (tradeBit_swap 5#32 4#32 32 16 (by decide) (by decide) (by decide) (by decide) y R1 R' L1 L' a0 b0 ra0 lb0 ?_ ?_))
  all_goals omega

/-- The three trades together. -/
theorem tradeBits_apply (y : FVec F S256x128 .f32) (R R' : Fin 256) (L L' : Fin 128) (hR : R'.val = 32 * (L.val / 16) + R.val % 32)
    (hL : L'.val = 16 * (R.val / 32) + L.val % 16) : tradeBits y (ix2 R L) = y (ix2 R' L') := by
  have hbit : ∀ x : Fin 8, x.val = 4 * (x.val / 4 % 2) + 2 * (x.val / 2 % 2) + x.val % 2 := by decide
  have h1 := hbit (rowHi R)
  have h2 := hbit ⟨L.val / 16, by omega⟩
  simp only [rowHi] at h1 h2
  have two : ∀ x : Nat, x % 2 < 2 := fun x => Nat.mod_lt x (by decide)
  refine tradeBits_bits y R R' L L' ⟨_, two (R.val / 32 / 4)⟩ ⟨_, two (R.val / 32 / 2)⟩ ⟨_, two (R.val / 32)⟩
    ⟨_, two (L.val / 16 / 4)⟩ ⟨_, two (L.val / 16 / 2)⟩ ⟨_, two (L.val / 16)⟩ (R.val % 32) (L.val % 16) (by omega) (by omega)
    ?_ ?_ ?_ ?_
  all_goals dsimp only
  · rw [show R.val = 32 * (R.val / 32) + R.val % 32 by omega]; generalize R.val / 32 = q at *; omega
  · omega
  · omega
  · omega

end Cert.Exchange

end
-- ==== Proof.Outcome.lean ====
/-
# What the eight devices compute together

`sorted x` is the whole array with every column sorted by the network. When device `c` starts with rows 256c to 256c + 255 of `x`, it ends with those
rows of `sorted x` (`outcome`): the trades put a block's entries at their ranks, eight levels sort within the network what a device holds, the
first exchange gives every device all the ranks of sixteen columns, three more levels finish the sort, and the second exchange and the trades
give every device its own rows back. `sorted x` is what the reference's sort makes of `x` (`sorted_eq`): both ascend, and both rearrange the
same columns.
-/
module

public import proofs.«01_k».proof.Proof.Trades
public import Idealize.ShloMosaic.Lib.SortFacts
public import proofs.«01_k».proof.ReferenceIdeal
public import Idealize.ShloMosaic.Lib.SortNet.HostSort

@[expose] public section

noncomputable section

namespace Cert.Exchange

open Cert.KernelIdeal Cert.KernelIdeal.Gen
open Idealize.ShloMosaic hiding ix1 ix2 ix3
open Idealize.ShloMosaic.ValueIdx
open Idealize.ShloMosaic.SortNet

/-- The whole array. -/
abbrev Whole : Shape := ⟨2, ![2048, 128]⟩

/-- The columns of the whole array. -/
def columns (x : Whole.Idx → EReal) : Columns := fun c i => x (ix2 (show Fin 2048 from i) c)

/-- The whole array with its columns sorted by the network. -/
def sorted (x : Whole.Idx → EReal) : Whole.Idx → EReal := fun j => Network.apply (sortNet 11 false) (columns x (j 1)) (j 0)

/-! ## The blocks -/

/-- What device `c` has sorted before the first exchange, as a block. -/
def localBlock (c : Dev nD) (v : FVec Ideal S256x128 .f32) : FVec Ideal S256x128 .f32 :=
  levelFrom (k0_pay2 c) 7 7 (levelFrom (k0_pay2 c) 6 6 (levelFrom (k0_pay2 c) 5 5 (levelFrom (k0_pay2 c) 4 4
    (levelFrom (k0_pay2 c) 3 3 (levelFrom (k0_pay2 c) 2 2 (levelFrom (k0_pay2 c) 1 1 (levelFrom (k0_pay2 c) 0 0 (tradeBits v))))))))

/-- What a device has merged before the second exchange, as a block. -/
def mergeBlock (y : FVec Ideal S256x128 .f32) : FVec Ideal S256x128 .f32 :=
  levelFrom k0_pay3 10 10 (levelFrom k0_pay3 9 9 (levelFrom k0_pay3 8 8 y))

section
variable (x : Whole.Idx → EReal)

theorem localBlock_holds (c : Fin 8) (v : FVec Ideal S256x128 .f32)
    (hv : ∀ (R : Fin 256) (L : Fin 128) (h : 256 * c.val + R.val < 2048), v (ix2 R L) = x (ix2 ⟨256 * c.val + R.val, h⟩ L)) :
    Holds (homePlace c) (fun q => Network.apply (levelsTo 8) (columns x q)) (localBlock c v) := by
  have hr := home_ranked c
  have h0 : Holds (homePlace c) (fun q => Network.apply (levelsTo 0) (columns x q)) (tradeBits v) := by
    intro R L
    have hR := R.isLt
    have hL := L.isLt
    have hc := c.isLt
    rw [tradeBits_apply v R ⟨32 * (L.val / 16) + R.val % 32, by omega⟩ L ⟨16 * (R.val / 32) + L.val % 16, by omega⟩ rfl rfl,
      hv _ _ (by show _ + (32 * (L.val / 16) + R.val % 32) < _; omega)]
    show _ = x (ix2 _ _)
    exact congrArg₂ (fun a b => x (ix2 a b)) (Fin.ext (Nat.add_assoc ..).symm) rfl
  have next : ∀ {l : Nat} {y : FVec Ideal S256x128 .f32}, l < 8 → Holds (homePlace c) (fun q => Network.apply (levelsTo l) (columns x q)) y →
      Holds (homePlace c) (fun q => Network.apply (levelsTo (l + 1)) (columns x q)) (levelFrom (k0_pay2 c) l l y) :=
    fun hl hy => hy.next hr (by omega) (fun h => by omega)
  exact next (by decide) (next (by decide) (next (by decide) (next (by decide) (next (by decide) (next (by decide) (next (by decide)
    (next (by decide) h0)))))))

theorem mergeBlock_holds (c : Fin 8) (y : FVec Ideal S256x128 .f32)
    (hy : Holds (mergePlace c) (fun q => Network.apply (levelsTo 8) (columns x q)) y) :
    Holds (mergePlace c) (fun q => Network.apply (sortNet 11 false) (columns x q)) (mergeBlock y) := by
  have hr := merge_ranked c
  have hw := mergePlace_whole c
  rw [← levelsTo_all]
  exact ((hy.next hr (by decide) fun _ => hw).next hr (by decide) fun _ => hw).next hr (by decide) fun _ => hw

/-! ## The exchanges -/

theorem exch_apply (z : Dev nD → Vec Ideal S8x32x128 .f32) (c : Dev nD) (d : Fin 8) (r : Fin 32) (L : Fin 128) :
    exch z c (ix3 d r L) = z d (ix3 c r L) := by
  show z d (inSlot c (ix3 d r L)) = _
  congr 1
  funext a
  unfold inSlot
  match a with
  | ⟨0, _⟩ => rfl
  | ⟨1, _⟩ => rfl
  | ⟨2, _⟩ => rfl

/-- An exchange of blocks: row `32 d + r` of what `c` gets is row `32 c + r` of what `d` has. -/
theorem exch_block (y : Dev nD → FVec Ideal S256x128 .f32) (h : S256x128.ShapeCasts S8x32x128) (h' : S8x32x128.ShapeCasts S256x128)
    (c : Dev nD) (R R' : Fin 256) (L : Fin 128) (hR' : R'.val = 32 * c.val + R.val % 32) :
    shapeCast S256x128 (exch (F := Ideal) (fun d => shapeCast S8x32x128 (y d) h) c) h' (ix2 R L) = y (rowHi R) (ix2 R' L) := by
  have e := ungroup_apply (g := 8) (w := 32) (exch (F := Ideal) (fun d => shapeCast S8x32x128 (y d) h) c) h' (rowHi R) ⟨R.val % 32, by omega⟩ L R
    (show R.val = R.val / 32 * 32 + R.val % 32 by omega)
  refine e.trans ?_
  rw [exch_apply]
  exact group_apply (g := 8) (w := 32) (y (rowHi R)) h c ⟨R.val % 32, by omega⟩ L R' (show R'.val = c.val * 32 + R.val % 32 by omega)

theorem locOut_block (c : Dev nD) (v : Vec Ideal S256x128 .f32) :
    locOut c v = shapeCast S8x32x128 (localBlock c v) shapeCasts_S256x128_S8x32x128 := by
  rw [locOut_eq, shapeCast_id, shapeCast_id]
  rfl

theorem mrgOut_block (g : Vec Ideal S8x32x128 .f32) : mrgOut g
    = shapeCast S8x32x128 (mergeBlock (shapeCast S256x128 g shapeCasts_S8x32x128_S256x128)) shapeCasts_S256x128_S8x32x128 := by
  rw [mrgOut_eq, shapeCast_id]
  rfl

/-- Every device ends with its rows of the sorted array. -/
theorem outcome (v : Dev nD → Vec Ideal S256x128 .f32)
    (hv : ∀ (c : Dev nD) (R : Fin 256) (L : Fin 128) (h : 256 * c.val + R.val < 2048), v c (ix2 R L) = x (ix2 ⟨256 * c.val + R.val, h⟩ L))
    (c : Dev nD) (R : Fin 256) (L : Fin 128) (h : 256 * c.val + R.val < 2048) :
    finOut (exch (F := Ideal) (fun e => mrgOut (exch (F := Ideal) (fun d => locOut d (v d)) e)) c) (ix2 R L) = sorted x (ix2 ⟨256 * c.val + R.val, h⟩ L) := by
  have hloc : ∀ d, Holds (homePlace d) (fun q => Network.apply (levelsTo 8) (columns x q)) (localBlock d (v d)) := fun d =>
    localBlock_holds x d (v d) (hv d)
  simp only [locOut_block, mrgOut_block]
  have hmrg : ∀ e, Holds (mergePlace e) (fun q => Network.apply (sortNet 11 false) (columns x q))
      (mergeBlock (shapeCast S256x128 (exch (F := Ideal) (fun d => shapeCast S8x32x128 (localBlock d (v d)) shapeCasts_S256x128_S8x32x128) e)
        shapeCasts_S8x32x128_S256x128)) := by
    intro e
    apply mergeBlock_holds
    intro R L
    have he := e.isLt
    have hm : R.val % 32 < 32 := Nat.mod_lt _ (by decide)
    have e1 : (32 * e.val + R.val % 32) / 32 = e.val := by omega
    have e2 : (32 * e.val + R.val % 32) % 32 = R.val % 32 := by omega
    rw [exch_block _ _ _ e R ⟨32 * e.val + R.val % 32, by show _ < 256; have : e.val < 8 := e.isLt; omega⟩ L rfl, hloc]
    refine congrArg₂ (fun q i => Network.apply (levelsTo 8) (columns x q) i) (Fin.ext ?_) (Fin.ext ?_)
    · show 16 * ((32 * e.val + R.val % 32) / 32) + L.val % 16 = 16 * e.val + L.val % 16
      rw [e1]
    · show 256 * (R.val / 32) + 32 * (L.val / 16) + (32 * e.val + R.val % 32) % 32 = 256 * (R.val / 32) + 32 * (L.val / 16) + R.val % 32
      rw [e2]
  have hR := R.isLt
  have hL := L.isLt
  have hc : c.val < 8 := c.isLt
  rw [finOut_eq, tradeBits_apply _ R ⟨32 * (L.val / 16) + R.val % 32, by omega⟩ L ⟨16 * (R.val / 32) + L.val % 16, by omega⟩ rfl rfl,
    exch_block _ _ _ c _ ⟨32 * c.val + R.val % 32, by omega⟩ _ (show 32 * c.val + R.val % 32 = 32 * c.val + (32 * (L.val / 16) + R.val % 32) % 32 by omega), hmrg]
  refine congrArg₂ (fun q i => Network.apply (sortNet 11 false) (columns x q) i) (Fin.ext ?_) (Fin.ext ?_)
  · show 16 * ((32 * (L.val / 16) + R.val % 32) / 32) + (16 * (R.val / 32) + L.val % 16) % 16 = L.val
    omega
  · show 256 * ((32 * c.val + R.val % 32) / 32) + 32 * ((16 * (R.val / 32) + L.val % 16) / 16) + (32 * c.val + R.val % 32) % 32
      = 256 * c.val + R.val
    omega

/-! ## The reference's sort -/

/-- Over the extended reals the reference compares by `<`. -/
theorem comparator_eq (a b : EReal) : Cert.ReferenceIdeal.comparator_f32_d0 (F := Ideal) a b = BitVec.ofBool (decide (a < b)) := by
  have hz : ∀ u w : EReal, Scalar.select (BitVec.ofBool (decide (u = w))) w u = u := by
    intro u w
    rw [select_ofBool]
    by_cases h : u = w
    · simp [h]
    · simp [h]
  have hn : ∀ u w : EReal, Scalar.select (BitVec.ofBool (decide (u ≠ u))) w u = u := by
    intro u w
    rw [select_ofBool]
    simp
  have key : ∀ u n z : EReal, Scalar.select (BitVec.ofBool (decide (u ≠ u))) n (Scalar.select (BitVec.ofBool (decide (u = z))) z u) = u := by
    intro u n z
    rw [hz, hn]
  show BitVec.ofBool (decide ((Scalar.select (BitVec.ofBool (decide (a ≠ a))) _ (Scalar.select (BitVec.ofBool (decide (a = _))) _ a) : EReal)
    < Scalar.select (BitVec.ofBool (decide (b ≠ b))) _ (Scalar.select (BitVec.ofBool (decide (b = _))) _ b))) = _
  rw [key a, key b]

/-- Two ascending rearrangements of one vector agree. -/
theorem ascending_unique {n : Nat} (v : Fin n → EReal) (σ τ : Equiv.Perm (Fin n)) (hσ : Monotone (v ∘ σ)) (hτ : Monotone (v ∘ τ)) :
    v ∘ σ = v ∘ τ := by
  apply List.ofFn_injective
  refine List.Perm.eq_of_pairwise (le := fun a b : EReal => a ≤ b) (fun a b _ _ h h' => le_antisymm h h') ?_ ?_
    ((Equiv.Perm.ofFn_comp_perm σ v).trans (Equiv.Perm.ofFn_comp_perm τ v).symm)
  · rw [List.pairwise_ofFn]
    exact fun i j h => hσ (le_of_lt h)
  · rw [List.pairwise_ofFn]
    exact fun i j h => hτ (le_of_lt h)

/-- The stable sort of a column by `<`, as the network gives it. -/
theorem column_sorted {p : Nat} (v : Fin (2 ^ p) → EReal) (B : Fin (2 ^ p) → Fin (2 ^ p) → Bool) (hB : ∀ a b, B a b = decide (v a < v b))
    (i : Fin (2 ^ p)) : v (sortedFrom B i) = Network.apply (sortNet p false) v i := by
  obtain ⟨σ, hσ⟩ := Network.exists_perm (sortNet p false) v
  have hm := sortNet_apply_monotone p v
  rw [hσ] at hm ⊢
  refine congrFun (ascending_unique v (Equiv.ofBijective _ ⟨sortedFrom_injective B, sortedFrom_surjective B⟩) σ ?_ hm) i
  intro a b hab
  rcases eq_or_lt_of_le hab with rfl | hlt
  · exact le_refl _
  have h := sortedFrom_noInversion B B (fun a b h => by
      rw [hB, decide_eq_true_eq] at h
      rw [hB, decide_eq_false_iff_not]
      exact not_lt_of_ge (le_of_lt h)) (fun _ _ h => h) (fun a b c h h' => by
      rw [hB, decide_eq_false_iff_not, not_lt] at h h' ⊢
      exact le_trans h' h) a b hlt
  rw [hB, decide_eq_false_iff_not, not_lt] at h
  exact h

/-- The sorted array is what the reference makes of the whole array. -/
theorem sorted_eq : Host.sort Whole 0 (Cert.ReferenceIdeal.comparator_f32_d0 (F := Ideal)) x = sorted x := by
  funext j
  have hal : ∀ k : Fin 2048, j.along (0 : Fin 2) k = ix2 k (j 1) := by
    intro k
    unfold Shape.Idx.along
    funext a
    match a with
    | ⟨0, _⟩ => rfl
    | ⟨1, _⟩ => rfl
  refine Eq.trans ?_ (column_sorted (columns x (j 1)) (fun k k' => Cert.ReferenceIdeal.comparator_f32_d0 (F := Ideal)
    (x (j.along (0 : Fin 2) k)) (x (j.along (0 : Fin 2) k')) == 1#1) (fun a b => ?_) (j 0))
  · exact congrArg x (hal _)
  · rw [comparator_eq, hal, hal]
    show (BitVec.ofBool (decide (columns x (j 1) a < columns x (j 1) b)) == 1#1) = _
    cases decide (columns x (j 1) a < columns x (j 1) b) <;> rfl

end

end Cert.Exchange

end
-- ==== Proof.Value.lean ====
/-
# The kernel against the reference

Over the extended reals each device's result is its block of what the reference makes of the whole array.
-/
module

public import proofs.«01_k».proof.Proof.Frames
public import proofs.«01_k».proof.Proof.Outcome

@[expose] public section

noncomputable section

namespace Cert.Exchange

open Cert.KernelIdeal Cert.KernelIdeal.Gen
open Idealize.ShloMosaic hiding ix1 ix2 ix3
open Idealize.ShloMosaic.ValueIdx
open Idealize.SL.Sem

/-- A device that starts with its rows of `x` ends with its rows of the sorted `x`. -/
theorem result_block (m : (ℓ : Loc nD τ sig) → Buf (Elt Ideal) ℓ) (ρ : Dev nD → PrngReg) (x : Whole.Idx → EReal)
    (hx : ∀ c : Dev nD, m ((c.tc : Thread nD τ).loc main_arg0) = Layout.block ⟨2, ![256, 128]⟩ ⟨2, ![2048, 128]⟩ 0 8 c x) (c : Dev nD) :
    outV (F := Ideal) m ρ c = Layout.block ⟨2, ![256, 128]⟩ ⟨2, ![2048, 128]⟩ 0 8 c (sorted x) := by
  have hc : c.val < 8 := c.isLt
  have place : ∀ (v : Whole.Idx → EReal) (e : Dev nD) (R : Fin 256) (L : Fin 128) (h : 256 * e.val + R.val < 2048),
      (Layout.block ⟨2, ![256, 128]⟩ ⟨2, ![2048, 128]⟩ 0 8 e v) (ix2 R L) = v (ix2 ⟨256 * e.val + R.val, h⟩ L) := by
    intro v e R L h
    unfold Layout.block
    refine congrArg v (funext fun a => Fin.ext ?_)
    match a with
    | ⟨0, _⟩ => exact congrArg (· + R.val) (Nat.mul_comm e.val 256)
    | ⟨1, _⟩ => rfl
  have at_place : ∀ (R : Fin 256) (L : Fin 128),
      outV (F := Ideal) m ρ c (ix2 R L) = (Layout.block ⟨2, ![256, 128]⟩ ⟨2, ![2048, 128]⟩ 0 8 c (sorted x)) (ix2 R L) := by
    intro R L
    have h : 256 * c.val + R.val < 2048 := by omega
    rw [place (sorted x) c R L h]
    exact outcome x (fun d => xstg m ρ d) (fun d R L h => by rw [xstg_eq, hx d]; exact place x d R L h) c R L h
  funext i
  have e : i = ix2 (n0 := 256) (n1 := 128) (i 0) (i 1) := ValueIdx.eq_ix2 i
  rw [e]
  exact at_place (i 0) (i 1)

theorem kernel_value (m : (ℓ : Loc nD τ sig) → Buf (Elt Ideal) ℓ) (ρ : Dev nD → PrngReg) (x : Whole.Idx → EReal)
    (hx : ∀ c : Dev nD, m ((c.tc : Thread nD τ).loc main_arg0) = Layout.block ⟨2, ![256, 128]⟩ ⟨2, ![2048, 128]⟩ 0 8 c x) :
    θ_run (Cert.KernelIdeal.defs (F := Ideal)) (onTc (τ := τ) (main (F := Ideal))) ⟨m, fun _ => 0, ρ⟩ (fun r => ∀ c : Dev nD,
      r.2.mem ((c.tc : Thread nD τ).loc main_v1) = Layout.block ⟨2, ![256, 128]⟩ ⟨2, ![2048, 128]⟩ 0 8 c (sorted x)
      ∧ r.2.mem ((c.tc : Thread nD τ).loc main_arg0) = m ((c.tc : Thread nD τ).loc main_arg0)) :=
  (θ_run Cert.KernelIdeal.defs _ _).mono (fun _ h c => ⟨((h.1 c 1).trans (finalA_out m ρ c)).trans (result_block m ρ x hx c),
    (h.1 c 0).trans (finalA_x m ρ c)⟩) (run_main (F := Ideal) m ρ)

theorem reference_value (m : (ℓ : Loc Cert.ReferenceIdeal.nD Cert.ReferenceIdeal.τ Cert.ReferenceIdeal.sig) → Buf (Elt Ideal) ℓ)
    (ρ : Dev Cert.ReferenceIdeal.nD → PrngReg) (x : Whole.Idx → EReal)
    (hx : m (((0 : Dev Cert.ReferenceIdeal.nD).tc : Thread Cert.ReferenceIdeal.nD Cert.ReferenceIdeal.τ).loc Cert.ReferenceIdeal.main_arg0) = x) :
    θ_run (Cert.ReferenceIdeal.defs (F := Ideal)) (onTc (τ := Cert.ReferenceIdeal.τ) (Cert.ReferenceIdeal.main (F := Ideal)))
      ⟨m, fun _ => 0, ρ⟩ (fun r =>
        r.2.mem (((0 : Dev Cert.ReferenceIdeal.nD).tc : Thread Cert.ReferenceIdeal.nD Cert.ReferenceIdeal.τ).loc Cert.ReferenceIdeal.main_v0) = sorted x
        ∧ r.2.mem (((0 : Dev Cert.ReferenceIdeal.nD).tc : Thread Cert.ReferenceIdeal.nD Cert.ReferenceIdeal.τ).loc Cert.ReferenceIdeal.main_arg0)
          = m (((0 : Dev Cert.ReferenceIdeal.nD).tc : Thread Cert.ReferenceIdeal.nD Cert.ReferenceIdeal.τ).loc Cert.ReferenceIdeal.main_arg0)) := by
  have e := sorted_eq x
  subst hx
  exact (θ_run Cert.ReferenceIdeal.defs _ _).mono (fun _ h => ⟨(h 0).1.trans e, (h 0).2⟩) (Cert.ReferenceIdeal.Value.run (F := Ideal) m ρ)

/-- The kernel's blocks are the blocks of the reference's sort. -/
theorem algebraic : Cert.algebraic_KernelIdeal_ReferenceIdeal := fun m ρ m' ρ' _ hx =>
  ⟨sorted _, kernel_value m ρ _ hx, reference_value m' ρ' _ rfl⟩

end Cert.Exchange

end
-- ==== Proof.lean ====
/-
# The claims

The frames of the three programs, and that the kernel over the extended reals computes the reference's sort.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Exchange.frame_Kernel, Cert.Exchange.frame_KernelIdeal, frame_ReferenceIdeal, trivial, Cert.Exchange.algebraic⟩

end Cert.Proof

end
